-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log_beta1" .f32 0xBDD7C741#32 ((Real.log (9 / 10) : ℝ) : EReal)
  ∧ IdealRules.named_const.Statement Cert.KernelIdeal.κ "log_beta2" .f32 0xBA832338#32 ((Real.log (999 / 1000) : ℝ) : EReal)
  ∧ IdealRules.named_const.Statement Cert.KernelIdeal.κ "beta1" .f32 0x3F666666#32 ((9 / 10 : ℝ) : EReal)
  ∧ IdealRules.named_const.Statement Cert.KernelIdeal.κ "beta2_gain" .f32 0x411FD70A#32 ((999 / 100 : ℝ) : EReal)
  ∧ IdealRules.named_const.Statement Cert.KernelIdeal.κ "one_tenth" .f32 0x3DCCCCCD#32 ((1 / 10 : ℝ) : EReal)
  ∧ IdealRules.named_const.Statement Cert.KernelIdeal.κ "neg_lr_wd" .f32 0xB727C5AC#32 ((-1 / 100000 : ℝ) : EReal)

def algebraic_KernelIdeal_ReferenceIdeal_on_where_normal [hKernelIdeal : Cert.KernelIdeal.Facts] [hReferenceIdeal : Cert.ReferenceIdeal.Facts] [hOn_where_normal : Cert.On_where_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![24064, 2048]⟩ : Shape).Idx, (Cert.On_where_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v3_0) i = v0 c i)
          ∧ (∀ i : (⟨2, ![24064, 2048]⟩ : Shape).Idx, (Cert.On_where_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v3_1) i = v1 c i)
          ∧ (∀ i : (⟨2, ![24064, 16]⟩ : Shape).Idx, (Cert.On_where_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v4) i = v2 c i)
          ∧ (∀ i : (⟨2, ![24064, 2048]⟩ : Shape).Idx, (Cert.On_where_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v3_3) i = v3 c i)
          ∧ (∀ i : (⟨2, ![24064, 16]⟩ : Shape).Idx, (Cert.On_where_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.KernelIdeal.nD Cert.KernelIdeal.τ).loc Cert.KernelIdeal.main_v5) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![24064, 2048]⟩ : Shape).Idx, (Cert.On_where_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v1_0) i = v0 c i)
          ∧ (∀ i : (⟨2, ![24064, 2048]⟩ : Shape).Idx, (Cert.On_where_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v1_1) i = v1 c i)
          ∧ (∀ i : (⟨2, ![24064, 16]⟩ : Shape).Idx, (Cert.On_where_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v1_2) i = v2 c i)
          ∧ (∀ i : (⟨2, ![24064, 2048]⟩ : Shape).Idx, (Cert.On_where_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v1_3) i = v3 c i)
          ∧ (∀ i : (⟨2, ![24064, 16]⟩ : Shape).Idx, (Cert.On_where_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.ReferenceIdeal.nD Cert.ReferenceIdeal.τ).loc Cert.ReferenceIdeal.main_v1_4) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_where_normal : Cert.On_where_normal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_where_normal (hKernelIdeal := hKernelIdeal) (hReferenceIdeal := hReferenceIdeal) (hOn_where_normal := hOn_where_normal)
-- ==== On_where_normal.lean ====
abbrev S24064x2048 : Shape := ⟨2, ![24064, 2048]⟩
abbrev S24064x16 : Shape := ⟨2, ![24064, 16]⟩
abbrev S_ : Shape := ⟨0, ![]⟩
abbrev S24064x16x1 : Shape := ⟨3, ![24064, 16, 1]⟩
abbrev S24064x16x128 : Shape := ⟨3, ![24064, 16, 128]⟩

class Facts : Prop where
  bitsLt_bf16_f32 : FTy.bits .bf16 < FTy.bits .f32
  bcast_S24064x16_S24064x16x1_0_1 : S24064x16.BroadcastsInDim S24064x16x1 (![0, 1] : Fin 2 → Fin S24064x16x1.rank)
  bcast_S24064x16x1_S24064x16x128_0_1_2 : S24064x16x1.BroadcastsInDim S24064x16x128 (![0, 1, 2] : Fin 3 → Fin S24064x16x128.rank)
  shapeCasts_S24064x16x128_S24064x2048 : S24064x16x128.ShapeCasts S24064x2048
  natLt_8_32 : 8 < 32
  bcast_S_S24064x2048 : S_.BroadcastsInDim S24064x2048 (![] : Fin 0 → Fin S24064x2048.rank)
  bcast_S_S24064x16 : S_.BroadcastsInDim S24064x16 (![] : Fin 0 → Fin S24064x16.rank)

variable [Facts]

def fn_part1 {F : FTy → Type} [FloatOps F] (main_arg0 : FVec F S24064x2048 .f32) (main_arg6 : IVec S_ 32) (main_v18 : IVec S24064x2048 1) (main_c : IVec S_ 32) : IVec S24064x2048 1 × IVec S24064x2048 1 × IVec S24064x16 1 × IVec S24064x2048 1 × IVec S24064x16 1 :=
  let main_v19 : IVec S_ 1 := cmpi .sge main_arg6 main_c
  let main_v20 : IVec S24064x2048 1 := broadcastInDim S24064x2048 ![] bcast_S_S24064x2048 main_v19
  let main_v21 : IVec S24064x2048 1 := andi main_v18 main_v20
  let main_v22 : FVec F S24064x2048 .f32 := Host.absf main_arg0
  let main_cst_3 : FVec F S_ .f32 := constant S_ .f32 0x7F800000#32
  let main_v23 : FVec F S24064x2048 .f32 := broadcastInDim S24064x2048 ![] bcast_S_S24064x2048 main_cst_3
  let main_v24 : IVec S24064x2048 1 := cmpf .olt main_v22 main_v23
  let main_v25 : IVec S24064x2048 1 := andi main_v21 main_v24
  let main_c_4 : IVec S_ 1 := constantI S_ 1 1#1
  let main_v26 : IVec S24064x2048 1 := broadcastInDim S24064x2048 ![] bcast_S_S24064x2048 main_c_4
  let main_c_5 : IVec S_ 1 := constantI S_ 1 1#1
  let main_v27 : IVec S24064x16 1 := broadcastInDim S24064x16 ![] bcast_S_S24064x16 main_c_5
  (main_v25, main_v26, main_v27, main_v26, main_v27)

def fn {F : FTy → Type} [FloatOps F] (main_arg0 : FVec F S24064x2048 .f32) (main_arg1 : FVec F S24064x2048 .bf16) (main_arg2 : IVec S24064x2048 8) (main_arg3 : FVec F S24064x16 .f32) (main_arg4 : IVec S24064x2048 8) (main_arg5 : FVec F S24064x16 .f32) (main_arg6 : IVec S_ 32) : IVec S24064x2048 1 × IVec S24064x2048 1 × IVec S24064x16 1 × IVec S24064x2048 1 × IVec S24064x16 1 :=
  let main_v0 : FVec F S24064x2048 .f32 := (extf .f32 · bitsLt_bf16_f32) main_arg1
  let main_v1 : FVec F S24064x16x1 .f32 := broadcastInDim S24064x16x1 ![0, 1] bcast_S24064x16_S24064x16x1_0_1 main_arg5
  let main_v2 : FVec F S24064x16x128 .f32 := broadcastInDim S24064x16x128 ![0, 1, 2] bcast_S24064x16x1_S24064x16x128_0_1_2 main_v1
  let main_v3 : FVec F S24064x2048 .f32 := shapeCast S24064x2048 main_v2 shapeCasts_S24064x16x128_S24064x2048
  let main_v4 : IVec S24064x2048 32 := (extsi 32 · natLt_8_32) main_arg4
  let main_v5 : FVec F S24064x2048 .f32 := sitofp .f32 main_v4
  let main_v6 : FVec F S24064x2048 .f32 := mulf main_v5 main_v3
  let main_cst : FVec F S_ .f32 := constant S_ .f32 0x4479C000#32
  let main_v7 : FVec F S24064x2048 .f32 := broadcastInDim S24064x2048 ![] bcast_S_S24064x2048 main_cst
  let main_v8 : FVec F S24064x2048 .f32 := mulf main_v7 main_v6
  let main_v9 : FVec F S24064x2048 .f32 := mulf main_v0 main_v0
  let main_v10 : FVec F S24064x2048 .f32 := addf main_v8 main_v9
  let main_cst_0 : FVec F S_ .f32 := constant S_ .f32 0x03C80000#32
  let main_v11 : FVec F S24064x2048 .f32 := broadcastInDim S24064x2048 ![] bcast_S_S24064x2048 main_cst_0
  let main_v12 : IVec S24064x2048 1 := cmpf .oge main_v10 main_v11
  let main_cst_1 : FVec F S_ .f32 := constant S_ .f32 0x7F800000#32
  let main_v13 : FVec F S24064x2048 .f32 := broadcastInDim S24064x2048 ![] bcast_S_S24064x2048 main_cst_1
  let main_v14 : IVec S24064x2048 1 := cmpf .olt main_v10 main_v13
  let main_v15 : IVec S24064x2048 1 := andi main_v12 main_v14
  let main_cst_2 : FVec F S_ .f32 := constant S_ .f32 0x00000000#32
  let main_v16 : FVec F S24064x2048 .f32 := broadcastInDim S24064x2048 ![] bcast_S_S24064x2048 main_cst_2
  let main_v17 : IVec S24064x2048 1 := cmpf .oeq main_v10 main_v16
  let main_v18 : IVec S24064x2048 1 := ori main_v17 main_v15
  let main_c : IVec S_ 32 := constantI S_ 32 1#32
  fn_part1 (F := F) main_arg0 main_arg6 main_v18 main_c
-- ==== Kernel.lean ====
abbrev S24064x2048 : Shape := ⟨2, ![24064, 2048]⟩
abbrev S24064x16 : Shape := ⟨2, ![24064, 16]⟩
abbrev S_ : Shape := ⟨0, ![]⟩
abbrev S1 : Shape := ⟨1, ![1]⟩
abbrev S16x24064 : Shape := ⟨2, ![16, 24064]⟩
abbrev S256x2048 : Shape := ⟨2, ![256, 2048]⟩
abbrev S16x256 : Shape := ⟨2, ![16, 256]⟩
abbrev S256x16 : Shape := ⟨2, ![256, 16]⟩
abbrev S1x128 : Shape := ⟨2, ![1, 128]⟩
abbrev S32x128 : Shape := ⟨2, ![32, 128]⟩
abbrev S32x1 : Shape := ⟨2, ![32, 1]⟩
abbrev S32 : Shape := ⟨1, ![32]⟩

abbrev nBuf : Space → Nat
  | .hbm => 17
  | .vmem => 26
  | .smem => 1
  | _ => 0

abbrev bufTy : (tb : Table) → Fin (tcTables nBuf tb) → BufTy
  | .hbm, ⟨0, _⟩ => ⟨S24064x2048, .f32⟩
  | .hbm, ⟨1, _⟩ => ⟨S24064x2048, .bf16⟩
  | .hbm, ⟨2, _⟩ => ⟨S24064x2048, .i8⟩
  | .hbm, ⟨3, _⟩ => ⟨S24064x16, .f32⟩
  | .hbm, ⟨4, _⟩ => ⟨S24064x2048, .i8⟩
  | .hbm, ⟨5, _⟩ => ⟨S24064x16, .f32⟩
  | .hbm, ⟨6, _⟩ => ⟨S_, .i32⟩
  | .hbm, ⟨7, _⟩ => ⟨S1, .i32⟩
  | .hbm, ⟨8, _⟩ => ⟨S16x24064, .f32⟩
  | .hbm, ⟨9, _⟩ => ⟨S16x24064, .f32⟩
  | .hbm, ⟨10, _⟩ => ⟨S24064x2048, .f32⟩
  | .hbm, ⟨11, _⟩ => ⟨S24064x2048, .i8⟩
  | .hbm, ⟨12, _⟩ => ⟨S16x24064, .f32⟩
  | .hbm, ⟨13, _⟩ => ⟨S24064x2048, .i8⟩
  | .hbm, ⟨14, _⟩ => ⟨S16x24064, .f32⟩
  | .hbm, ⟨15, _⟩ => ⟨S24064x16, .f32⟩
  | .hbm, ⟨16, _⟩ => ⟨S24064x16, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .i8⟩
  | .local _ .vmem, ⟨5, _⟩ => ⟨S256x2048, .i8⟩
  | .local _ .vmem, ⟨6, _⟩ => ⟨S16x256, .f32⟩
  | .local _ .vmem, ⟨7, _⟩ => ⟨S16x256, .f32⟩
  | .local _ .vmem, ⟨8, _⟩ => ⟨S256x2048, .i8⟩
  | .local _ .vmem, ⟨9, _⟩ => ⟨S256x2048, .i8⟩
  | .local _ .vmem, ⟨10, _⟩ => ⟨S16x256, .f32⟩
  | .local _ .vmem, ⟨11, _⟩ => ⟨S16x256, .f32⟩
  | .local _ .vmem, ⟨12, _⟩ => ⟨S256x2048, .f32⟩
  | .local _ .vmem, ⟨13, _⟩ => ⟨S256x2048, .f32⟩
  | .local _ .vmem, ⟨14, _⟩ => ⟨S256x2048, .i8⟩
  | .local _ .vmem, ⟨15, _⟩ => ⟨S256x2048, .i8⟩
  | .local _ .vmem, ⟨16, _⟩ => ⟨S16x256, .f32⟩
  | .local _ .vmem, ⟨17, _⟩ => ⟨S16x256, .f32⟩
  | .local _ .vmem, ⟨18, _⟩ => ⟨S256x2048, .i8⟩
  | .local _ .vmem, ⟨19, _⟩ => ⟨S256x2048, .i8⟩
  | .local _ .vmem, ⟨20, _⟩ => ⟨S16x256, .f32⟩
  | .local _ .vmem, ⟨21, _⟩ => ⟨S16x256, .f32⟩
  | .local _ .vmem, ⟨22, _⟩ => ⟨S256x16, .f32⟩
  | .local _ .vmem, ⟨23, _⟩ => ⟨S256x16, .f32⟩
  | .local _ .vmem, ⟨24, _⟩ => ⟨S256x16, .f32⟩
  | .local _ .vmem, ⟨25, _⟩ => ⟨S256x16, .f32⟩
  | .local _ .smem, ⟨0, _⟩ => ⟨S1, .i32⟩
  | _, _ => ⟨S24064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v4 : Ref sig .tc := ⟨.hbm, 15, rfl⟩
abbrev main_v5 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![94], ![false]⟩

@[reducible] def k0_t1_loop : Scf.Loop 32 :=
  let c0_i32 : BitVec 32 := 0#32
  let c8_i32 : BitVec 32 := 8#32
  let v39 : BitVec 32 := Scalar.addi c0_i32 c8_i32
  let c1_i32 : BitVec 32 := 1#32
  ⟨c0_i32, v39, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  v46
def k0_off1 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v48 : Index := Scalar.indexCast v47
  let c0_26 : Index := 0#32
  ![v48.toNat, 0]
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v61 : Index := Scalar.indexCast v47
  let c0_30 : Index := 0#32
  ![v61.toNat, 0]
def k0_off3 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v153 : Index := Scalar.indexCast v47
  let c128 : Index := 128#32
  ![v153.toNat, 128]
def k0_off4 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v166 : Index := Scalar.indexCast v47
  let c1 : Index := 1#32
  ![v166.toNat, 1]
def k0_off5 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v258 : Index := Scalar.indexCast v47
  let c256 : Index := 256#32
  ![v258.toNat, 256]
def k0_off6 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v271 : Index := Scalar.indexCast v47
  let c2 : Index := 2#32
  ![v271.toNat, 2]
def k0_off7 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v363 : Index := Scalar.indexCast v47
  let c384 : Index := 384#32
  ![v363.toNat, 384]
def k0_off8 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v376 : Index := Scalar.indexCast v47
  let c3 : Index := 3#32
  ![v376.toNat, 3]
def k0_off9 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v468 : Index := Scalar.indexCast v47
  let c512 : Index := 512#32
  ![v468.toNat, 512]
def k0_off10 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v481 : Index := Scalar.indexCast v47
  let c4 : Index := 4#32
  ![v481.toNat, 4]
def k0_off11 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v573 : Index := Scalar.indexCast v47
  let c640 : Index := 640#32
  ![v573.toNat, 640]
def k0_off12 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v586 : Index := Scalar.indexCast v47
  let c5 : Index := 5#32
  ![v586.toNat, 5]
def k0_off13 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v678 : Index := Scalar.indexCast v47
  let c768 : Index := 768#32
  ![v678.toNat, 768]
def k0_off14 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v691 : Index := Scalar.indexCast v47
  let c6 : Index := 6#32
  ![v691.toNat, 6]
def k0_off15 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v783 : Index := Scalar.indexCast v47
  let c896 : Index := 896#32
  ![v783.toNat, 896]
def k0_off16 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v796 : Index := Scalar.indexCast v47
  let c7 : Index := 7#32
  ![v796.toNat, 7]
def k0_off17 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v888 : Index := Scalar.indexCast v47
  let c1024 : Index := 1024#32
  ![v888.toNat, 1024]
def k0_off18 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v901 : Index := Scalar.indexCast v47
  let c8 : Index := 8#32
  ![v901.toNat, 8]
def k0_off19 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v993 : Index := Scalar.indexCast v47
  let c1152 : Index := 1152#32
  ![v993.toNat, 1152]
def k0_off20 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v1006 : Index := Scalar.indexCast v47
  let c9 : Index := 9#32
  ![v1006.toNat, 9]
def k0_off21 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v1098 : Index := Scalar.indexCast v47
  let c1280 : Index := 1280#32
  ![v1098.toNat, 1280]
def k0_off22 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v1111 : Index := Scalar.indexCast v47
  let c10 : Index := 10#32
  ![v1111.toNat, 10]
def k0_off23 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v1203 : Index := Scalar.indexCast v47
  let c1408 : Index := 1408#32
  ![v1203.toNat, 1408]
def k0_off24 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v1216 : Index := Scalar.indexCast v47
  let c11 : Index := 11#32
  ![v1216.toNat, 11]
def k0_off25 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v1308 : Index := Scalar.indexCast v47
  let c1536 : Index := 1536#32
  ![v1308.toNat, 1536]
def k0_off26 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v1321 : Index := Scalar.indexCast v47
  let c12 : Index := 12#32
  ![v1321.toNat, 12]
def k0_off27 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v1413 : Index := Scalar.indexCast v47
  let c1664 : Index := 1664#32
  ![v1413.toNat, 1664]
def k0_off28 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v1426 : Index := Scalar.indexCast v47
  let c13 : Index := 13#32
  ![v1426.toNat, 13]
def k0_off29 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v1518 : Index := Scalar.indexCast v47
  let c1792 : Index := 1792#32
  ![v1518.toNat, 1792]
def k0_off30 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v1531 : Index := Scalar.indexCast v47
  let c14 : Index := 14#32
  ![v1531.toNat, 14]
def k0_off31 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v1623 : Index := Scalar.indexCast v47
  let c1920 : Index := 1920#32
  ![v1623.toNat, 1920]
def k0_off32 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v46 : BitVec 32 := Scalar.muli arg17 c32_i32
  let v47 : BitVec 32 := v46
  let v1636 : Index := Scalar.indexCast v47
  let c15 : Index := 15#32
  ![v1636.toNat, 15]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "beta1" => some ((9 / 10 : ℝ) : EReal)
  | "beta2_gain" => some ((999 / 100 : ℝ) : EReal)
  | "log_beta1" => some ((Real.log (9 / 10) : ℝ) : EReal)
  | "log_beta2" => some ((Real.log (999 / 1000) : ℝ) : EReal)
  | "neg_lr_wd" => some ((-1 / 100000 : ℝ) : EReal)
  | "one_tenth" => some ((1 / 10 : ℝ) : EReal)
  | _ => none
-- ==== ReferenceIdeal.lean ====
abbrev S24064x2048 : Shape := ⟨2, ![24064, 2048]⟩
abbrev S24064x16 : Shape := ⟨2, ![24064, 16]⟩
abbrev S_ : Shape := ⟨0, ![]⟩
abbrev S1 : Shape := ⟨1, ![1]⟩
abbrev S1x1x1 : Shape := ⟨3, ![1, 1, 1]⟩
abbrev S24064x16x128 : Shape := ⟨3, ![24064, 16, 128]⟩
abbrev S24064x16x1 : Shape := ⟨3, ![24064, 16, 1]⟩

abbrev nBuf : Space → Nat
  | .hbm => 13
  | .vmem => 11
  | .smem => 1
  | _ => 0

abbrev bufTy : (tb : Table) → Fin (tcTables nBuf tb) → BufTy
  | .hbm, ⟨0, _⟩ => ⟨S24064x2048, .f32⟩
  | .hbm, ⟨1, _⟩ => ⟨S24064x2048, .bf16⟩
  | .hbm, ⟨2, _⟩ => ⟨S24064x2048, .i8⟩
  | .hbm, ⟨3, _⟩ => ⟨S24064x16, .f32⟩
  | .hbm, ⟨4, _⟩ => ⟨S24064x2048, .i8⟩
  | .hbm, ⟨5, _⟩ => ⟨S24064x16, .f32⟩
  | .hbm, ⟨6, _⟩ => ⟨S_, .i32⟩
  | .hbm, ⟨7, _⟩ => ⟨S1, .i32⟩
  | .hbm, ⟨8, _⟩ => ⟨S24064x2048, .f32⟩
  | .hbm, ⟨9, _⟩ => ⟨S24064x2048, .i8⟩
  | .hbm, ⟨10, _⟩ => ⟨S24064x16, .f32⟩
  | .hbm, ⟨11, _⟩ => ⟨S24064x2048, .i8⟩
  | .hbm, ⟨12, _⟩ => ⟨S24064x16, .f32⟩
  | .local _ .vmem, ⟨0, _⟩ => ⟨S24064x2048, .f32⟩
  | .local _ .vmem, ⟨1, _⟩ => ⟨S24064x2048, .bf16⟩
  | .local _ .vmem, ⟨2, _⟩ => ⟨S24064x2048, .i8⟩
  | .local _ .vmem, ⟨3, _⟩ => ⟨S24064x16, .f32⟩
  | .local _ .vmem, ⟨4, _⟩ => ⟨S24064x2048, .i8⟩
  | .local _ .vmem, ⟨5, _⟩ => ⟨S24064x16, .f32⟩
  | .local _ .vmem, ⟨6, _⟩ => ⟨S24064x2048, .f32⟩
  | .local _ .vmem, ⟨7, _⟩ => ⟨S24064x2048, .i8⟩
  | .local _ .vmem, ⟨8, _⟩ => ⟨S24064x16, .f32⟩
  | .local _ .vmem, ⟨9, _⟩ => ⟨S24064x2048, .i8⟩
  | .local _ .vmem, ⟨10, _⟩ => ⟨S24064x16, .f32⟩
  | .local _ .smem, ⟨0, _⟩ => ⟨S1, .i32⟩
  | _, _ => ⟨S24064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "beta1" => some ((9 / 10 : ℝ) : EReal)
  | "beta2" => some ((999 / 1000 : ℝ) : EReal)
  | "one_tenth" => some ((1 / 10 : ℝ) : EReal)
  | "one_thousandth" => some ((1 / 1000 : ℝ) : EReal)
  | "wd" => some ((268435456 / 26843546875 : ℝ) : EReal)
  | _ => none

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24064x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24064x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24064x2048 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24064x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24064x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24064x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24064x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24064x2048 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24064x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24064x2048 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S24064x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.K.Spec.lean ====
module

public import Idealize.ShloMosaic.PureOps.Ideal
public import Idealize.ShloMosaic.PureOps.Ideal.Laws

/-! The optimiser step of one element and the quantiser of one block, over the extended reals. Nothing here names a
program: the kernel's spelling (`k…`) and the textbook's (`r…`) of each quantity are two functions of plain scalars, and
the other modules say which program computes which. -/

@[expose] public section

noncomputable section

namespace Adam

open Idealize.ShloMosaic

/-- An f32 word read as the number it denotes. -/
abbrev w (b : BitVec 32) : EReal := Ideal.ofBits .f32 b

/-- The integer a signed code denotes. -/
abbrev num {n : Nat} (c : BitVec n) : EReal := ((c.toInt : ℝ) : EReal)

/-- The real `1/10`. -/
abbrev tenth : EReal := ((1 / 10 : ℝ) : EReal)

/-! ## Columns and their blocks -/

/-- The column of lane `j` of column block `b`. -/
def cell (b : Fin 16) (j : Fin 128) : Fin 2048 := ⟨128 * b.val + j.val, by omega⟩

/-- The column block of a column. -/
def blockOf (q : Fin 2048) : Fin 16 := ⟨q.val / 128, by omega⟩

/-- The lane of a column. -/
def laneOf (q : Fin 2048) : Fin 128 := ⟨q.val % 128, by omega⟩

/-- A cell's block is the one it was named by. -/
theorem blockOf_cell (b : Fin 16) (j : Fin 128) : blockOf (cell b j) = b := Fin.ext (by simp only [blockOf, cell]; omega)

/-- A cell's lane is the one it was named by. -/
theorem laneOf_cell (b : Fin 16) (j : Fin 128) : laneOf (cell b j) = j := Fin.ext (by simp only [laneOf, cell]; omega)

/-- A column is the cell of its block and lane. -/
theorem cell_of (q : Fin 2048) : cell (blockOf q) (laneOf q) = q := Fin.ext (by simp only [blockOf, laneOf, cell]; omega)

/-! ## As the kernel spells it -/

/-- The first moment: `s` is the code's scale with the decay already multiplied in. -/
def kM (c : BitVec 8) (s g : EReal) : EReal := num c * s + g * tenth

/-- Ten times the second moment: `s` is the code's scale with ten times the decay already multiplied in. -/
def kV (c : BitVec 8) (s g : EReal) : EReal := num c * s + g * tenth * (g * tenth)

/-- The step of one parameter `p`, from the moments and the two numbers `cm`, `ce` that depend on the step count alone. -/
def kDelta (cm ce m v p : EReal) : EReal :=
  m * cm * Ideal.div 1 (v * Ideal.rsqrt (max v (w 0x00800000#32)) + ce) + ((-1 / 100000 : ℝ) : EReal) * p

/-- The largest magnitude of a block. -/
def peak (f : Fin 128 → EReal) : EReal := Finset.univ.fold max (w 0xFF800000#32) fun j => max (f j) (-f j)

/-- A block's scale, from its largest magnitude. -/
def scale (a : EReal) : EReal :=
  if a = 0 then 1 else Ideal.div a (w 0x42FE0000#32)

/-- An element's code, from its block's scale. -/
def kCode (x s : EReal) : BitVec 8 :=
  (Ideal.fptosi 32 (Ideal.liftRound Ideal.roundHalfEven
    (min (w 0x42FE0000#32) (max (w 0xC2FE0000#32) (x * Ideal.div 1 s))))).truncate 8

/-! ## As the textbook spells it -/

/-- The first moment: nine tenths of the old one and a tenth of the gradient. -/
def rM (c : BitVec 8) (s g : EReal) : EReal := ((9 / 10 : ℝ) : EReal) * (num c * s) + tenth * g

/-- The second moment: all but a thousandth of the old one and a thousandth of the gradient squared. -/
def rV (d : BitVec 8) (r g : EReal) : EReal := ((999 / 1000 : ℝ) : EReal) * (num d * r) + ((1 / 1000 : ℝ) : EReal) * (g * g)

/-- The bias correction `1 - β ^ t` of step `t`. -/
def rBias (β : ℝ) (t : BitVec 32) : EReal := num (1#32) - Ideal.pow (β : EReal) (num t)

/-- The weight decay: a hundred thousandth over the learning rate, which is the word nearest a thousandth. -/
abbrev decay : EReal := ((268435456 / 26843546875 : ℝ) : EReal)

/-- The step of one parameter `p`, from the moments and their bias corrections. -/
def rDelta (b1 b2 m v p : EReal) : EReal :=
  w 0xBA83126F#32 * (Ideal.div (Ideal.div m b1) (Ideal.sqrt (Ideal.div v b2) + w 0x322BCC77#32) + decay * p)

/-- An element's code, from its block's scale. -/
def rCode (x s : EReal) : BitVec 8 :=
  Ideal.fptosi 8 (min (w 0x42FE0000#32) (max (w 0xC2FE0000#32) (Ideal.liftRound Ideal.roundHalfEven (Ideal.div x s))))

end Adam

end
-- ==== Proof.K.Block.lean ====
module

public import proofs.«01_k».proof.Proof.K.Spec
public import proofs.«01_k».proof.Proof.Gen.KernelIdeal.Frame
public import Idealize.ShloMosaic.Lib.Pipeline.Value
public import Idealize.ShloMosaic.Lib.Pipeline.ValueKit.Tiles
public import Idealize.ShloMosaic.Lib.Pointwise

/-! What the kernel computes in one block of 32 rows by 128 columns, element by element, and where the block sits in the
256 rows by 2048 columns of a grid point. -/

@[expose] public section

noncomputable section

namespace Cert.KernelIdeal.Val

open Idealize.ShloMosaic Cert.KernelIdeal.Gen Adam

/-! ## One block, element by element -/

section Block

variable (cm ce : FVec Ideal S1x128 .f32) (g : Vec Ideal S32x128 .bf16) (c d : Vec Ideal S32x128 .i8)
  (s r : Vec Ideal S32x1 .f32) (p : Vec Ideal S32x128 .f32) (x y : FVec Ideal S32x128 .f32) (i : Fin 32) (j : Fin 128)

/-- The block's first moments. -/
theorem moment1_apply : k0_pay5 g c s (ix2 i j) = kM (c (ix2 i j)) (s (ix2 i 0)) (g (ix2 i j)) := by
  simp only [k0_pay5, k0_pay4, pointwise]; rfl

/-- The block's second moments, times ten. -/
theorem moment2_apply : k0_pay6 g c s (ix2 i j) = kV (c (ix2 i j)) (s (ix2 i 0)) (g (ix2 i j)) := by
  simp only [k0_pay6, k0_pay4, pointwise]; rfl

/-- The block's steps. -/
theorem delta_apply : k0_pay7 cm ce g c d s r p (ix2 i j)
    = kDelta (cm (ix2 0 j)) (ce (ix2 0 j)) (k0_pay5 g c s (ix2 i j)) (k0_pay6 g d r (ix2 i j)) (p (ix2 i j)) := by
  simp only [k0_pay7, pointwise]; rfl

/-- A row's scale. -/
theorem scale_apply : k0_pay9 (absf x) (ix2 i 0) = scale (peak fun j => x (ix2 i j)) := by
  simp only [k0_pay9, pointwise]; rfl

/-- The codes of the first moments. -/
theorem code1_apply : k0_pay10 x y (ix2 i j) = kCode (x (ix2 i j)) (k0_pay9 y (ix2 i 0)) := by
  simp only [k0_pay10, pointwise]; rfl

/-- The codes of the second moments. -/
theorem code2_apply : k0_pay11 x (ix2 i j) = kCode (x (ix2 i j)) (scale (peak fun j => x (ix2 i j))) := by
  simp only [k0_pay11, pointwise]; rfl

/-- A row's scale of the second moments: a tenth of the largest, since the moments are ten times theirs. -/
theorem scale2_apply : k0_pay13 x (ix2 i 0) = scale (peak (fun j => x (ix2 i j)) * tenth) := by
  simp only [k0_pay13, pointwise]; rfl

end Block

/-! ## Where a block sits -/

/-- The row of row `i` of the `k`-th 32 rows. -/
def row (k : Fin 8) (i : Fin 32) : Fin 256 := ⟨32 * k.val + i.val, by omega⟩

/-- Every index of a block is a row and a lane. -/
theorem forall_wide {P : S32x128.Idx → Prop} (H : ∀ (i : Fin 32) (j : Fin 128), P (ix2 i j)) (x : S32x128.Idx) : P x := by
  rw [eq_ix2 x]; exact H _ _

/-- Every index of a scale column is a row. -/
theorem forall_tall {P : S32x1.Idx → Prop} (H : ∀ i : Fin 32, P (ix2 i 0)) (x : S32x1.Idx) : P x := by
  rw [eq_ix2 x]
  have e : x 1 = (0 : Fin 1) := Subsingleton.elim (α := Fin 1) _ _
  rw [e]; exact H _

section Place

variable {e : EltTy} {k : Fin 8} {b : Fin 16} {off : Fin 2 → Nat}

/-- A block's element sits at its row and column. -/
theorem wide_emb (ho : off = ![32 * k.val, 128 * b.val]) (h : ∀ a, off a + S32x128.size a ≤ S256x2048.size a) (i : Fin 32) (j : Fin 128) :
    (Rect.unit (s := S256x2048) off S32x128.size h).emb (ix2 i j) = ix2 (row k i) (cell b j) := by
  subst ho
  refine Shape.idx_ext₂ ?_ ?_
  · show 32 * k.val + 1 * i.val = _; rw [Nat.one_mul]; rfl
  · show 128 * b.val + 1 * j.val = _; rw [Nat.one_mul]; rfl

/-- A scale column's element sits at its row and column block. -/
theorem tall_emb (ho : off = ![32 * k.val, b.val]) (h : ∀ a, off a + S32x1.size a ≤ S256x16.size a) (i : Fin 32) :
    (Rect.unit (s := S256x16) off S32x1.size h).emb (ix2 i 0) = ix2 (row k i) b := by
  subst ho
  refine Shape.idx_ext₂ ?_ ?_
  · show 32 * k.val + 1 * i.val = _; rw [Nat.one_mul]; rfl
  · show b.val + 1 * 0 = _; rfl

/-- A load of a block reads the block's place. -/
theorem wide_ld (X : S256x2048.Idx → Elt Ideal e) (ho : off = ![32 * k.val, 128 * b.val])
    (h : ∀ a, off a + S32x128.size a ≤ S256x2048.size a) (i : Fin 32) (j : Fin 128) :
    View.ld X (Rect.unit off S32x128.size h) (ix2 i j) = X (ix2 (row k i) (cell b j)) :=
  congrArg X (wide_emb ho h i j)

/-- A load of a scale column reads the column's place. -/
theorem tall_ld (X : S256x16.Idx → Elt Ideal e) (ho : off = ![32 * k.val, b.val])
    (h : ∀ a, off a + S32x1.size a ≤ S256x16.size a) (i : Fin 32) :
    View.ld X (Rect.unit off S32x1.size h) (ix2 i 0) = X (ix2 (row k i) b) :=
  congrArg X (tall_emb ho h i)

end Place

/-! ## A grid point's results, as functions of its 256 rows -/

section Point

variable (cm ce : FVec Ideal S1x128 .f32) (p : Vec Ideal S256x2048 .f32) (g : Vec Ideal S256x2048 .bf16)
  (c d : Vec Ideal S256x2048 .i8) (s r : Vec Ideal S256x16 .f32)

/-- The first moments, `s` the decayed scales. -/
def gM (y : S256x2048.Idx) : EReal := kM (c y) (s (ix2 (y 0) (blockOf (y 1)))) (g y)

/-- Ten times the second moments, `r` the decayed scales times ten. -/
def gV (y : S256x2048.Idx) : EReal := kV (d y) (r (ix2 (y 0) (blockOf (y 1)))) (g y)

/-- The steps. -/
def gD (y : S256x2048.Idx) : EReal :=
  kDelta (cm (ix2 0 (laneOf (y 1)))) (ce (ix2 0 (laneOf (y 1)))) (gM g c s y) (gV g d r y) (p y)

/-- The scales of the first moments. -/
def gSM (z : S256x16.Idx) : EReal := scale (peak fun j => gM g c s (ix2 (z 0) (cell (z 1) j)))

/-- The codes of the first moments. -/
def gCM (y : S256x2048.Idx) : BitVec 8 := kCode (gM g c s y) (gSM g c s (ix2 (y 0) (blockOf (y 1))))

/-- The scales of the second moments. -/
def gSV (z : S256x16.Idx) : EReal := scale (peak (fun j => gV g d r (ix2 (z 0) (cell (z 1) j))) * tenth)

/-- The codes of the second moments. -/
def gCV (y : S256x2048.Idx) : BitVec 8 :=
  kCode (gV g d r y) (scale (peak fun j => gV g d r (ix2 (y 0) (cell (blockOf (y 1)) j))))

variable {k : Fin 8} {b : Fin 16} {off offS : Fin 2 → Nat}
  (ho : off = ![32 * k.val, 128 * b.val]) (h : ∀ a, off a + S32x128.size a ≤ S256x2048.size a)
  (hs : offS = ![32 * k.val, b.val]) (h' : ∀ a, offS a + S32x1.size a ≤ S256x16.size a)

include ho hs

/-- A block's first moments are the point's, at the block's place. -/
theorem moment1_at (i : Fin 32) (j : Fin 128) :
    k0_pay5 (View.ld g (Rect.unit off S32x128.size h)) (View.ld c (Rect.unit off S32x128.size h)) (View.ld s (Rect.unit offS S32x1.size h')) (ix2 i j)
      = gM g c s (ix2 (row k i) (cell b j)) := by
  refine (moment1_apply ..).trans ?_
  rw [wide_ld (k := k) (b := b) c ho h i j, wide_ld (k := k) (b := b) g ho h i j, tall_ld (k := k) (b := b) s hs h' i]
  simp only [gM, ix2_0, ix2_1, blockOf_cell]

/-- A block's second moments are the point's, at the block's place. -/
theorem moment2_at (i : Fin 32) (j : Fin 128) :
    k0_pay6 (View.ld g (Rect.unit off S32x128.size h)) (View.ld d (Rect.unit off S32x128.size h)) (View.ld r (Rect.unit offS S32x1.size h')) (ix2 i j)
      = gV g d r (ix2 (row k i) (cell b j)) := by
  refine (moment2_apply ..).trans ?_
  rw [wide_ld (k := k) (b := b) d ho h i j, wide_ld (k := k) (b := b) g ho h i j, tall_ld (k := k) (b := b) r hs h' i]
  simp only [gV, ix2_0, ix2_1, blockOf_cell]

/-- A block's stored steps are the point's. -/
theorem delta_piece (x : S32x128.Idx) :
    k0_pay7 cm ce (View.ld g (Rect.unit off S32x128.size h)) (View.ld c (Rect.unit off S32x128.size h)) (View.ld d (Rect.unit off S32x128.size h))
        (View.ld s (Rect.unit offS S32x1.size h')) (View.ld r (Rect.unit offS S32x1.size h')) (View.ld p (Rect.unit off S32x128.size h)) x
      = gD cm ce p g c d s r ((Rect.unit (s := S256x2048) off S32x128.size h).emb x) := by
  revert x; refine forall_wide fun i j => ?_
  refine (delta_apply ..).trans ?_
  rw [moment1_at g c s ho h hs h', moment2_at g d r ho h hs h', wide_ld (k := k) (b := b) p ho h, wide_emb ho h]
  simp only [gD, ix2_0, ix2_1, laneOf_cell]

/-- A block's stored scales of the first moments are the point's. -/
theorem scale1_piece (x : S32x1.Idx) :
    k0_pay12 (k0_pay9 (k0_pay8 (View.ld g (Rect.unit off S32x128.size h)) (View.ld c (Rect.unit off S32x128.size h)) (View.ld s (Rect.unit offS S32x1.size h')))) x
      = gSM g c s ((Rect.unit (s := S256x16) offS S32x1.size h').emb x) := by
  revert x; refine forall_tall fun i => ?_
  rw [tall_emb hs h']
  unfold k0_pay12
  rw [shapeCast_self]
  refine (scale_apply _ _).trans ?_
  simp only [gSM, moment1_at g c s ho h hs h', ix2_0, ix2_1]

/-- A block's stored codes of the first moments are the point's. -/
theorem code1_piece (x : S32x128.Idx) :
    k0_pay10 (k0_pay5 (View.ld g (Rect.unit off S32x128.size h)) (View.ld c (Rect.unit off S32x128.size h)) (View.ld s (Rect.unit offS S32x1.size h')))
        (k0_pay8 (View.ld g (Rect.unit off S32x128.size h)) (View.ld c (Rect.unit off S32x128.size h)) (View.ld s (Rect.unit offS S32x1.size h'))) x
      = gCM g c s ((Rect.unit (s := S256x2048) off S32x128.size h).emb x) := by
  revert x; refine forall_wide fun i j => ?_
  refine (code1_apply ..).trans ?_
  rw [show k0_pay9 (k0_pay8 _ _ _) (ix2 i 0) = _ from scale_apply _ i, moment1_at g c s ho h hs h', wide_emb ho h]
  simp only [gCM, gSM, moment1_at g c s ho h hs h', ix2_0, ix2_1, blockOf_cell]

/-- A block's stored codes of the second moments are the point's. -/
theorem code2_piece (x : S32x128.Idx) :
    k0_pay11 (k0_pay6 (View.ld g (Rect.unit off S32x128.size h)) (View.ld d (Rect.unit off S32x128.size h)) (View.ld r (Rect.unit offS S32x1.size h'))) x
      = gCV g d r ((Rect.unit (s := S256x2048) off S32x128.size h).emb x) := by
  revert x; refine forall_wide fun i j => ?_
  refine (code2_apply ..).trans ?_
  rw [moment2_at g d r ho h hs h', wide_emb ho h]
  simp only [gCV, moment2_at g d r ho h hs h', ix2_0, ix2_1, blockOf_cell]

/-- A block's stored scales of the second moments are the point's. -/
theorem scale2_piece (x : S32x1.Idx) :
    k0_pay13 (k0_pay6 (View.ld g (Rect.unit off S32x128.size h)) (View.ld d (Rect.unit off S32x128.size h)) (View.ld r (Rect.unit offS S32x1.size h'))) x
      = gSV g d r ((Rect.unit (s := S256x16) offS S32x1.size h').emb x) := by
  revert x; refine forall_tall fun i => ?_
  rw [tall_emb hs h']
  refine (scale2_apply ..).trans ?_
  simp only [gSV, moment2_at g d r ho h hs h', ix2_0, ix2_1]

end Point

end Cert.KernelIdeal.Val

end
-- ==== Proof.K.Trip.lean ====
module

public import proofs.«01_k».proof.Proof.K.Block
public import Idealize.ShloMosaic.Lib.Pipeline.ReadBack

/-! The kernel's loop over the 256 rows of a grid point: a trip stores sixteen blocks of 32 rows, and every stored block is
the restriction of the grid point's results to the block's place. -/

@[expose] public section

noncomputable section

namespace Cert.KernelIdeal.Val

open Idealize.ShloMosaic Cert.KernelIdeal.Gen Adam

set_option maxRecDepth 4000 in
/-- Where trip `k` loads and stores: rows from `32 k`, block `b` of the sixteen at column `128 b`, its scales at column `b`. -/
theorem offsets : ∀ k : Fin k0_t1_loop.trips,
    k0_off1 k = ![32 * k.val, 0] ∧ k0_off2 k = ![32 * k.val, 0] ∧
    k0_off3 k = ![32 * k.val, 128] ∧ k0_off4 k = ![32 * k.val, 1] ∧
    k0_off5 k = ![32 * k.val, 256] ∧ k0_off6 k = ![32 * k.val, 2] ∧
    k0_off7 k = ![32 * k.val, 384] ∧ k0_off8 k = ![32 * k.val, 3] ∧
    k0_off9 k = ![32 * k.val, 512] ∧ k0_off10 k = ![32 * k.val, 4] ∧
    k0_off11 k = ![32 * k.val, 640] ∧ k0_off12 k = ![32 * k.val, 5] ∧
    k0_off13 k = ![32 * k.val, 768] ∧ k0_off14 k = ![32 * k.val, 6] ∧
    k0_off15 k = ![32 * k.val, 896] ∧ k0_off16 k = ![32 * k.val, 7] ∧
    k0_off17 k = ![32 * k.val, 1024] ∧ k0_off18 k = ![32 * k.val, 8] ∧
    k0_off19 k = ![32 * k.val, 1152] ∧ k0_off20 k = ![32 * k.val, 9] ∧
    k0_off21 k = ![32 * k.val, 1280] ∧ k0_off22 k = ![32 * k.val, 10] ∧
    k0_off23 k = ![32 * k.val, 1408] ∧ k0_off24 k = ![32 * k.val, 11] ∧
    k0_off25 k = ![32 * k.val, 1536] ∧ k0_off26 k = ![32 * k.val, 12] ∧
    k0_off27 k = ![32 * k.val, 1664] ∧ k0_off28 k = ![32 * k.val, 13] ∧
    k0_off29 k = ![32 * k.val, 1792] ∧ k0_off30 k = ![32 * k.val, 14] ∧
    k0_off31 k = ![32 * k.val, 1920] ∧ k0_off32 k = ![32 * k.val, 15] := by
  intro k
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> revert k <;> decide +kernel

/-- The loop's trip number as a number below eight. -/
def trip (k : Fin k0_t1_loop.trips) : Fin 8 := ⟨k.val, Nat.lt_of_lt_of_le k.isLt k0_t1_abs.2.1⟩

/-- Two lists of pieces of one array make a list of pieces of it. -/
theorem pieces_append {s : Shape} {e : EltTy} {G : s.Idx → Elt Ideal e} :
    ∀ {A B : List (View.Piece (Elt Ideal) s e)}, View.PiecesOf G A → View.PiecesOf G B → View.PiecesOf G (A ++ B)
  | [], _, _, hb => hb
  | _ :: _, _, ha, hb => ⟨ha.1, pieces_append ha.2 hb⟩

section Loop

variable (𝒱 : Variants) (c : Dev nD) (bd : Option 𝒱.V) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x16 .f32) (harg13 : arg13.IsWhole) (arg14 : Memref sig .tc .vmem S256x16 .f32) (harg14 : arg14.IsWhole) (arg15 : Memref sig .tc .vmem S256x16 .f32) (harg15 : arg15.IsWhole) (arg16 : Memref sig .tc .vmem S256x16 .f32) (harg16 : arg16.IsWhole) (v20 : FVec Ideal S1x128 .f32) (v22 : FVec Ideal S1x128 .f32) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg13 : BufTy.Contents (Elt Ideal) arg13.view.ty) (X_arg14 : BufTy.Contents (Elt Ideal) arg14.view.ty)

set_option maxHeartbeats 2000000 in
/-- Every block a trip stores is the grid point's results at the block's place. -/
theorem trip_pieces (k : Fin k0_t1_loop.trips) :
    View.PiecesOf (gD v20 v22 (arg2.view.read (Elt Ideal) X_arg2) (arg3.view.read (Elt Ideal) X_arg3) (arg4.view.read (Elt Ideal) X_arg4) (arg6.view.read (Elt Ideal) X_arg6) (arg13.view.read (Elt Ideal) X_arg13) (arg14.view.read (Elt Ideal) X_arg14)) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 k).1 ∧
    View.PiecesOf (gCM (arg3.view.read (Elt Ideal) X_arg3) (arg4.view.read (Elt Ideal) X_arg4) (arg13.view.read (Elt Ideal) X_arg13)) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 k).2.1 ∧
    View.PiecesOf (gCV (arg3.view.read (Elt Ideal) X_arg3) (arg6.view.read (Elt Ideal) X_arg6) (arg14.view.read (Elt Ideal) X_arg14)) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 k).2.2.1 ∧
    View.PiecesOf (gSM (arg3.view.read (Elt Ideal) X_arg3) (arg4.view.read (Elt Ideal) X_arg4) (arg13.view.read (Elt Ideal) X_arg13)) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 k).2.2.2.1 ∧
    View.PiecesOf (gSV (arg3.view.read (Elt Ideal) X_arg3) (arg6.view.read (Elt Ideal) X_arg6) (arg14.view.read (Elt Ideal) X_arg14)) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 k).2.2.2.2.val := by
  obtain ⟨w0, t0, w1, t1, w2, t2, w3, t3, w4, t4, w5, t5, w6, t6, w7, t7, w8, t8, w9, t9, w10, t10, w11, t11, w12, t12, w13, t13, w14, t14, w15, t15⟩ := offsets k
  unfold trip_k0_t1; dsimp only
  have D := fun (b : Fin 16) {off offS : Fin 2 → Nat} (ho : off = ![32 * (trip k).val, 128 * b.val]) (hs : offS = ![32 * (trip k).val, b.val]) h h' =>
    delta_piece v20 v22 (arg2.view.read (Elt Ideal) X_arg2) (arg3.view.read (Elt Ideal) X_arg3) (arg4.view.read (Elt Ideal) X_arg4) (arg6.view.read (Elt Ideal) X_arg6) (arg13.view.read (Elt Ideal) X_arg13) (arg14.view.read (Elt Ideal) X_arg14) ho h hs h'
  have CM := fun (b : Fin 16) {off offS : Fin 2 → Nat} (ho : off = ![32 * (trip k).val, 128 * b.val]) (hs : offS = ![32 * (trip k).val, b.val]) h h' =>
    code1_piece (arg3.view.read (Elt Ideal) X_arg3) (arg4.view.read (Elt Ideal) X_arg4) (arg13.view.read (Elt Ideal) X_arg13) ho h hs h'
  have CV := fun (b : Fin 16) {off offS : Fin 2 → Nat} (ho : off = ![32 * (trip k).val, 128 * b.val]) (hs : offS = ![32 * (trip k).val, b.val]) h h' =>
    code2_piece (arg3.view.read (Elt Ideal) X_arg3) (arg6.view.read (Elt Ideal) X_arg6) (arg14.view.read (Elt Ideal) X_arg14) ho h hs h'
  have SM := fun (b : Fin 16) {off offS : Fin 2 → Nat} (ho : off = ![32 * (trip k).val, 128 * b.val]) (hs : offS = ![32 * (trip k).val, b.val]) h h' =>
    scale1_piece (arg3.view.read (Elt Ideal) X_arg3) (arg4.view.read (Elt Ideal) X_arg4) (arg13.view.read (Elt Ideal) X_arg13) ho h hs h'
  have SV := fun (b : Fin 16) {off offS : Fin 2 → Nat} (ho : off = ![32 * (trip k).val, 128 * b.val]) (hs : offS = ![32 * (trip k).val, b.val]) h h' =>
    scale2_piece (arg3.view.read (Elt Ideal) X_arg3) (arg6.view.read (Elt Ideal) X_arg6) (arg14.view.read (Elt Ideal) X_arg14) ho h hs h'
  refine ⟨?_, ?_, ?_, ?_, ?_⟩
  · exact ⟨D 15 w15 t15 _ _, D 14 w14 t14 _ _, D 13 w13 t13 _ _, D 12 w12 t12 _ _,
      D 11 w11 t11 _ _, D 10 w10 t10 _ _, D 9 w9 t9 _ _, D 8 w8 t8 _ _,
      D 7 w7 t7 _ _, D 6 w6 t6 _ _, D 5 w5 t5 _ _, D 4 w4 t4 _ _,
      D 3 w3 t3 _ _, D 2 w2 t2 _ _, D 1 w1 t1 _ _, D 0 w0 t0 _ _, trivial⟩
  · exact ⟨CM 15 w15 t15 _ _, CM 14 w14 t14 _ _, CM 13 w13 t13 _ _, CM 12 w12 t12 _ _,
      CM 11 w11 t11 _ _, CM 10 w10 t10 _ _, CM 9 w9 t9 _ _, CM 8 w8 t8 _ _,
      CM 7 w7 t7 _ _, CM 6 w6 t6 _ _, CM 5 w5 t5 _ _, CM 4 w4 t4 _ _,
      CM 3 w3 t3 _ _, CM 2 w2 t2 _ _, CM 1 w1 t1 _ _, CM 0 w0 t0 _ _, trivial⟩
  · exact ⟨CV 15 w15 t15 _ _, CV 14 w14 t14 _ _, CV 13 w13 t13 _ _, CV 12 w12 t12 _ _,
      CV 11 w11 t11 _ _, CV 10 w10 t10 _ _, CV 9 w9 t9 _ _, CV 8 w8 t8 _ _,
      CV 7 w7 t7 _ _, CV 6 w6 t6 _ _, CV 5 w5 t5 _ _, CV 4 w4 t4 _ _,
      CV 3 w3 t3 _ _, CV 2 w2 t2 _ _, CV 1 w1 t1 _ _, CV 0 w0 t0 _ _, trivial⟩
  · exact ⟨SM 15 w15 t15 _ _, SM 14 w14 t14 _ _, SM 13 w13 t13 _ _, SM 12 w12 t12 _ _,
      SM 11 w11 t11 _ _, SM 10 w10 t10 _ _, SM 9 w9 t9 _ _, SM 8 w8 t8 _ _,
      SM 7 w7 t7 _ _, SM 6 w6 t6 _ _, SM 5 w5 t5 _ _, SM 4 w4 t4 _ _,
      SM 3 w3 t3 _ _, SM 2 w2 t2 _ _, SM 1 w1 t1 _ _, SM 0 w0 t0 _ _, trivial⟩
  · exact ⟨SV 15 w15 t15 _ _, SV 14 w14 t14 _ _, SV 13 w13 t13 _ _, SV 12 w12 t12 _ _,
      SV 11 w11 t11 _ _, SV 10 w10 t10 _ _, SV 9 w9 t9 _ _, SV 8 w8 t8 _ _,
      SV 7 w7 t7 _ _, SV 6 w6 t6 _ _, SV 5 w5 t5 _ _, SV 4 w4 t4 _ _,
      SV 3 w3 t3 _ _, SV 2 w2 t2 _ _, SV 1 w1 t1 _ _, SV 0 w0 t0 _ _, trivial⟩

/-- Every block the first `n` trips store is the grid point's results at the block's place. -/
theorem loop_pieces (n : Nat) (hn : n ≤ k0_t1_loop.trips) :
    View.PiecesOf (gD v20 v22 (arg2.view.read (Elt Ideal) X_arg2) (arg3.view.read (Elt Ideal) X_arg3) (arg4.view.read (Elt Ideal) X_arg4) (arg6.view.read (Elt Ideal) X_arg6) (arg13.view.read (Elt Ideal) X_arg13) (arg14.view.read (Elt Ideal) X_arg14)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 n).1 ∧
    View.PiecesOf (gCM (arg3.view.read (Elt Ideal) X_arg3) (arg4.view.read (Elt Ideal) X_arg4) (arg13.view.read (Elt Ideal) X_arg13)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 n).2.1 ∧
    View.PiecesOf (gCV (arg3.view.read (Elt Ideal) X_arg3) (arg6.view.read (Elt Ideal) X_arg6) (arg14.view.read (Elt Ideal) X_arg14)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 n).2.2.1 ∧
    View.PiecesOf (gSM (arg3.view.read (Elt Ideal) X_arg3) (arg4.view.read (Elt Ideal) X_arg4) (arg13.view.read (Elt Ideal) X_arg13)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 n).2.2.2.1 ∧
    View.PiecesOf (gSV (arg3.view.read (Elt Ideal) X_arg3) (arg6.view.read (Elt Ideal) X_arg6) (arg14.view.read (Elt Ideal) X_arg14)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 n).2.2.2.2 := by
  induction n with
  | zero => exact ⟨trivial, trivial, trivial, trivial, trivial⟩
  | succ n ih =>
    obtain ⟨a, b, c', d, e⟩ := ih (Nat.le_of_succ_le hn)
    obtain ⟨a', b', c'', d', e'⟩ := trip_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 ⟨n, hn⟩
    rw [show n + 1 = (⟨n, hn⟩ : Fin k0_t1_loop.trips).val + 1 from rfl, pb_k0_t1_succ]
    unfold tripL_k0_t1
    exact ⟨pieces_append a' a, pieces_append b' b, pieces_append c'' c', pieces_append d' d, pieces_append e' e⟩

end Loop

end Cert.KernelIdeal.Val

end
-- ==== Proof.K.Point.lean ====
module

public import proofs.«01_k».proof.Proof.K.Trip

/-! What the kernel's body leaves in each output block of a grid point, as a function of the point's input blocks. -/

@[expose] public section

noncomputable section

namespace Cert.KernelIdeal.Val

open Idealize.ShloMosaic Cert.KernelIdeal.Gen Adam

/-- The decayed scales of the first moments, row by block. -/
theorem decay1_apply (x : Vec Ideal S16x256 .f32) (i : Fin 256) (b : Fin 16) :
    k0_pay192 x (ix2 i b) = x (ix2 b i) * Named.named (F := Ideal) (φ := .f32) κ "beta1" 0x3F666666#32 := by
  unfold k0_pay192; simp only [shapeCast_self, pointwise]

/-- The decayed scales of the second moments times ten, row by block. -/
theorem decay2_apply (x : Vec Ideal S16x256 .f32) (i : Fin 256) (b : Fin 16) :
    k0_pay193 x (ix2 i b) = x (ix2 b i) * Named.named (F := Ideal) (φ := .f32) κ "beta2_gain" 0x411FD70A#32 := by
  unfold k0_pay193; simp only [shapeCast_self, pointwise]

/-- The stored scales of the first moments are the computed ones transposed. -/
theorem turn1_apply (x : Vec Ideal S256x16 .f32) (b : Fin 16) (i : Fin 256) : k0_pay2 x (ix2 b i) = x (ix2 i b) := by
  unfold k0_pay2; simp only [pointwise]

/-- The stored scales of the second moments are the computed ones transposed. -/
theorem turn2_apply (x : Vec Ideal S256x16 .f32) (b : Fin 16) (i : Fin 256) : k0_pay3 x (ix2 b i) = x (ix2 i b) := by
  unfold k0_pay3; simp only [pointwise]

/-- The loop's pieces, over any names of what its memrefs hold. -/
theorem loop_pieces_of (𝒱 : Variants) (c : Dev nD) (bd : Option 𝒱.V) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x16 .f32) (harg13 : arg13.IsWhole) (arg14 : Memref sig .tc .vmem S256x16 .f32) (harg14 : arg14.IsWhole) (arg15 : Memref sig .tc .vmem S256x16 .f32) (harg15 : arg15.IsWhole) (arg16 : Memref sig .tc .vmem S256x16 .f32) (harg16 : arg16.IsWhole) (v20 : FVec Ideal S1x128 .f32) (v22 : FVec Ideal S1x128 .f32) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg13 : BufTy.Contents (Elt Ideal) arg13.view.ty) (X_arg14 : BufTy.Contents (Elt Ideal) arg14.view.ty)
    {cm ce : FVec Ideal S1x128 .f32} {p : Vec Ideal S256x2048 .f32} {g : Vec Ideal S256x2048 .bf16} {a d : Vec Ideal S256x2048 .i8}
    {s r : Vec Ideal S256x16 .f32} (e20 : v20 = cm) (e22 : v22 = ce) (e2 : arg2.view.read (Elt Ideal) X_arg2 = p)
    (e3 : arg3.view.read (Elt Ideal) X_arg3 = g) (e4 : arg4.view.read (Elt Ideal) X_arg4 = a) (e6 : arg6.view.read (Elt Ideal) X_arg6 = d)
    (e13 : arg13.view.read (Elt Ideal) X_arg13 = s) (e14 : arg14.view.read (Elt Ideal) X_arg14 = r) (n : Nat) (hn : n ≤ k0_t1_loop.trips) :
    View.PiecesOf (gD cm ce p g a d s r) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 n).1 ∧
    View.PiecesOf (gCM g a s) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 n).2.1 ∧
    View.PiecesOf (gCV g d r) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 n).2.2.1 ∧
    View.PiecesOf (gSM g a s) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 n).2.2.2.1 ∧
    View.PiecesOf (gSV g d r) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 n).2.2.2.2 := by
  subst e20 e22 e2 e3 e4 e6 e13 e14
  exact loop_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v20 v22 X_arg2 X_arg3 X_arg4 X_arg6 X_arg13 X_arg14 n hn

/-- One store over a whole array leaves its value. -/
theorem read_one {κ' : Kind} {sp : Space} {S : Shape} {e : EltTy} (v : View sig κ' sp S e) (f : v.ty.Contents (Elt Ideal))
    {off : Fin S.rank → Nat} (h : off = fun _ => 0) (inb : ∀ a, off a + S.size a ≤ S.size a) (w : S.Idx → Elt Ideal e) :
    v.read (Elt Ideal) (v.writes (Elt Ideal) f [⟨Rect.unit off S.size inb, w⟩]) = w := by
  rw [View.read_writes_eq_canon v f _ (fun y => ⟨_, List.mem_singleton_self _, View.mem_set_unit_zero h inb y⟩), View.canon_unit_zero h inb w]

/-- Two zeros are zero everywhere. -/
theorem zero2 : (![0, 0] : Fin 2 → Nat) = fun _ => 0 := by decide

/-- One zero is zero everywhere. -/
theorem zero1 : (![0] : Fin 1 → Nat) = fun _ => 0 := by decide

/-- The step count, read as the kernel's one word. -/
theorem first1 (h : 0 < S1.numel) : Shape.Idx.first (s := S1) h = ix1 0 := by
  rw [eq_ix1 (Shape.Idx.first h)]
  exact congrArg ix1 (Subsingleton.elim (α := Fin 1) _ _)

/-- A scratch array filled with a function of a whole input array holds that function of what the input holds. -/
theorem read_turned {κ' : Kind} {sp sp' : Space} (v : View sig κ' sp S256x16 .f32) (f : v.ty.Contents (Elt Ideal)) (u : Memref sig .tc sp' S16x256 .f32)
    (hu : u.IsWhole) (inb : ∀ a, (![0, 0] : Fin 2 → Nat) a + S256x16.size a ≤ S256x16.size a) (pay : Vec Ideal S16x256 .f32 → Vec Ideal S256x16 .f32)
    (x : Vec Ideal S16x256 .f32) {inb' : ∀ a, (![0, 0] : Fin 2 → Nat) a + S16x256.size a ≤ S16x256.size a} :
    v.read (Elt Ideal) (v.writes (Elt Ideal) f [⟨Rect.unit (s := S256x16) ![0, 0] S256x16.size inb,
      pay (View.readAt (Elt Ideal) u.view (Rect.unit (s := S16x256) ![0, 0] S16x256.size inb').toLoadRect (hu.unread x))⟩]) = pay x := by
  refine (read_one (S := S256x16) _ _ zero2 _ _).trans (congrArg pay ?_)
  rw [View.readAt_eq_ld, Memref.IsWhole.read_unread]
  exact View.ld_unit_zero (S := S16x256) zero2 _ _

/-- The step count, loaded from its one word. -/
theorem read_steps {sp : Space} (u : Memref sig .tc sp S1 .i32) (hu : u.IsWhole) (x : Vec Ideal S1 .i32)
    {inb : ∀ a, (![0] : Fin 1 → Nat) a + S1.size a ≤ S1.size a} {h : 0 < S1.numel} :
    View.readAt (Elt Ideal) u.view (Rect.unit (s := S1) ![0] S1.size inb).toLoadRect (hu.unread x) (Shape.Idx.first h) = x (ix1 0) := by
  rw [View.readAt_eq_ld, Memref.IsWhole.read_unread, first1 h]
  exact congrFun (View.ld_unit_zero (S := S1) zero1 _ _) _

section Run

variable (c : Dev nD) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x16 .f32) (harg13 : arg13.IsWhole) (arg14 : Memref sig .tc .vmem S256x16 .f32) (harg14 : arg14.IsWhole) (arg15 : Memref sig .tc .vmem S256x16 .f32) (harg15 : arg15.IsWhole) (arg16 : Memref sig .tc .vmem S256x16 .f32) (harg16 : arg16.IsWhole)
  (x0 : Vec Ideal S1 .i32) (x1 : Vec Ideal S256x2048 .f32) (x2 : Vec Ideal S256x2048 .bf16) (x3 : Vec Ideal S256x2048 .i8)
  (x4 : Vec Ideal S16x256 .f32) (x5 : Vec Ideal S256x2048 .i8) (x6 : Vec Ideal S16x256 .f32)

/-- The steps the body leaves. -/
theorem out7 : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = gD (k0_pay190 (x0 (ix1 0))) (k0_pay191 (x0 (ix1 0))) x1 x2 x3 x5 (k0_pay192 x4) (k0_pay193 x6) := by
  funext y
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  refine View.canon_apply_of_pieces _ _ (View.PiecesOf.mem ?_) y (cover0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y)
  unfold kernelRun0_A; dsimp only
  sl_unfold_words
  refine (loop_pieces_of _ _ _ _ _ _ _ _ _ _ _ _ _ _ _ _ _ _ _ _ _ _ _ _ _ _ _ _ _ _ _ _ _ _ _ _ _ _ _ _ _ _ _ _ (cm := k0_pay190 (x0 (ix1 0))) (ce := k0_pay191 (x0 (ix1 0)))
    (p := x1) (g := x2) (a := x3) (d := x5) (s := k0_pay192 x4) (r := k0_pay193 x6) ?_ ?_ ?_ ?_ ?_ ?_ ?_ ?_ _ ?_).1
  pick_goal 9
  · exact Nat.le_refl _
  all_goals first | exact Memref.IsWhole.read_unread _ _ | exact read_turned _ _ _ _ _ _ _ | exact congrArg _ (read_steps ..)

/-- The codes of the first moments the body leaves. -/
theorem out8 : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = gCM x2 x3 (k0_pay192 x4) := by
  funext y
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  refine View.canon_apply_of_pieces _ _ (View.PiecesOf.mem ?_) y (cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y)
  unfold kernelRun0_A; dsimp only
  sl_unfold_words
  refine (loop_pieces_of _ _ _ _ _ _ _ _ _ _ _ _ _ _ _ _ _ _ _ _ _ _ _ _ _ _ _ _ _ _ _ _ _ _ _ _ _ _ _ _ _ _ _ _ (cm := k0_pay190 (x0 (ix1 0))) (ce := k0_pay191 (x0 (ix1 0)))
    (p := x1) (g := x2) (a := x3) (d := x5) (s := k0_pay192 x4) (r := k0_pay193 x6) ?_ ?_ ?_ ?_ ?_ ?_ ?_ ?_ _ ?_).2.1
  pick_goal 9
  · exact Nat.le_refl _
  all_goals first | exact Memref.IsWhole.read_unread _ _ | exact read_turned _ _ _ _ _ _ _ | exact congrArg _ (read_steps ..)

/-- The codes of the second moments the body leaves. -/
theorem out10 : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = gCV x2 x5 (k0_pay193 x6) := by
  funext y
  unfold out0_A_10
  rw [View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  refine View.canon_apply_of_pieces _ _ (View.PiecesOf.mem ?_) y (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y)
  unfold kernelRun0_A; dsimp only
  sl_unfold_words
  refine (loop_pieces_of _ _ _ _ _ _ _ _ _ _ _ _ _ _ _ _ _ _ _ _ _ _ _ _ _ _ _ _ _ _ _ _ _ _ _ _ _ _ _ _ _ _ _ _ (cm := k0_pay190 (x0 (ix1 0))) (ce := k0_pay191 (x0 (ix1 0)))
    (p := x1) (g := x2) (a := x3) (d := x5) (s := k0_pay192 x4) (r := k0_pay193 x6) ?_ ?_ ?_ ?_ ?_ ?_ ?_ ?_ _ ?_).2.2.1
  pick_goal 9
  · exact Nat.le_refl _
  all_goals first | exact Memref.IsWhole.read_unread _ _ | exact read_turned _ _ _ _ _ _ _ | exact congrArg _ (read_steps ..)

/-- The scales of the first moments, block by row. -/
theorem out9 (b : Fin 16) (i' : Fin 256) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 b i') = gSM x2 x3 (k0_pay192 x4) (ix2 i' b) := by
  unfold out0_A_9 kernelRun0_A; dsimp only
  sl_unfold_words
  rw [read_one _ _ zero2]
  refine (turn1_apply _ b i').trans ?_
  have hc : ∀ X20 X22 X2 X3 X4 X6 X13 X14, ∀ y : S256x16.Idx, ∃ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X20 X22 X2 X3 X4 X6 X13 X14 (Scf.trips k0_t1_loop.lb k0_t1_loop.ub k0_t1_loop.st)).2.2.2.1, y ∈ p.1.set :=
    fun X20 X22 X2 X3 X4 X6 X13 X14 => View.cover_of_tiledL (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X20 X22 X2 X3 X4 X6 X13 X14 (Scf.trips k0_t1_loop.lb k0_t1_loop.ub k0_t1_loop.st)).2.2.2.1 S32x1.size (by sl_kernel_rfl)
  rw [View.readCov_eq_canon _ _ _ (fun j => hc _ _ _ _ _ _ _ _ _)]
  have e : (Rect.unit ![0, 0] S256x16.size inb_S256x16_S256x16_0_0).toLoadRect.idx (ix2 i' b) = (ix2 i' b : S256x16.Idx) :=
    congrFun (View.ld_unit_zero (S := S256x16) zero2 inb_S256x16_S256x16_0_0 (Val := fun _ => S256x16.Idx) (e := .f32) id) (ix2 i' b)
  refine (congrArg _ e).trans ?_
  refine View.canon_apply_of_pieces _ _ (View.PiecesOf.mem ?_) _ (hc _ _ _ _ _ _ _ _ _)
  refine (loop_pieces_of _ _ _ _ _ _ _ _ _ _ _ _ _ _ _ _ _ _ _ _ _ _ _ _ _ _ _ _ _ _ _ _ _ _ _ _ _ _ _ _ _ _ _ _ (cm := k0_pay190 (x0 (ix1 0))) (ce := k0_pay191 (x0 (ix1 0)))
    (p := x1) (g := x2) (a := x3) (d := x5) (s := k0_pay192 x4) (r := k0_pay193 x6) ?_ ?_ ?_ ?_ ?_ ?_ ?_ ?_ _ ?_).2.2.2.1
  pick_goal 9
  · exact Nat.le_refl _
  all_goals first | exact Memref.IsWhole.read_unread _ _ | exact read_turned _ _ _ _ _ _ _ | exact congrArg _ (read_steps ..)

/-- The scales of the second moments, block by row. -/
theorem out11 (b : Fin 16) (i' : Fin 256) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 b i') = gSV x2 x5 (k0_pay193 x6) (ix2 i' b) := by
  unfold out0_A_11 kernelRun0_A; dsimp only
  sl_unfold_words
  rw [read_one _ _ zero2]
  refine (turn2_apply _ b i').trans ?_
  have hc : ∀ X20 X22 X2 X3 X4 X6 X13 X14, ∀ y : S256x16.Idx, ∃ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X20 X22 X2 X3 X4 X6 X13 X14 (Scf.trips k0_t1_loop.lb k0_t1_loop.ub k0_t1_loop.st)).2.2.2.2, y ∈ p.1.set :=
    fun X20 X22 X2 X3 X4 X6 X13 X14 => View.cover_of_tiledL (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X20 X22 X2 X3 X4 X6 X13 X14 (Scf.trips k0_t1_loop.lb k0_t1_loop.ub k0_t1_loop.st)).2.2.2.2 S32x1.size (by sl_kernel_rfl)
  rw [View.readCov_eq_canon _ _ _ (fun j => hc _ _ _ _ _ _ _ _ _)]
  have e : (Rect.unit ![0, 0] S256x16.size inb_S256x16_S256x16_0_0).toLoadRect.idx (ix2 i' b) = (ix2 i' b : S256x16.Idx) :=
    congrFun (View.ld_unit_zero (S := S256x16) zero2 inb_S256x16_S256x16_0_0 (Val := fun _ => S256x16.Idx) (e := .f32) id) (ix2 i' b)
  refine (congrArg _ e).trans ?_
  refine View.canon_apply_of_pieces _ _ (View.PiecesOf.mem ?_) _ (hc _ _ _ _ _ _ _ _ _)
  refine (loop_pieces_of _ _ _ _ _ _ _ _ _ _ _ _ _ _ _ _ _ _ _ _ _ _ _ _ _ _ _ _ _ _ _ _ _ _ _ _ _ _ _ _ _ _ _ _ (cm := k0_pay190 (x0 (ix1 0))) (ce := k0_pay191 (x0 (ix1 0)))
    (p := x1) (g := x2) (a := x3) (d := x5) (s := k0_pay192 x4) (r := k0_pay193 x6) ?_ ?_ ?_ ?_ ?_ ?_ ?_ ?_ _ ?_).2.2.2.2
  pick_goal 9
  · exact Nat.le_refl _
  all_goals first | exact Memref.IsWhole.read_unread _ _ | exact read_turned _ _ _ _ _ _ _ | exact congrArg _ (read_steps ..)

end Run

end Cert.KernelIdeal.Val

end
-- ==== Proof.K.Array.lean ====
module

public import proofs.«01_k».proof.Proof.K.Point

/-! The kernel's five results after every run, element by element, as functions of its argument arrays. -/

@[expose] public section

noncomputable section

namespace Cert.KernelIdeal.Val

open Idealize.ShloMosaic Idealize.ShloMosaic.TcCoe Idealize.SL.Sem Cert.KernelIdeal Cert.KernelIdeal.Gen Adam

/-! ## The results as functions of whole arrays -/

section Whole

variable (T : Elt Ideal .i32) (P : Vec Ideal S24064x2048 .f32) (G : Vec Ideal S24064x2048 .bf16)
  (C D : Vec Ideal S24064x2048 .i8) (S R : Vec Ideal S24064x16 .f32) (q : Fin 24064) (p : Fin 2048) (b : Fin 16)

/-- The new first moment of an element. -/
def aM : EReal :=
  kM (C (ix2 q p)) (S (ix2 q (blockOf p)) * Named.named (F := Ideal) (φ := .f32) κ "beta1" 0x3F666666#32) (G (ix2 q p))

/-- Ten times the new second moment of an element. -/
def aV : EReal :=
  kV (D (ix2 q p)) (R (ix2 q (blockOf p)) * Named.named (F := Ideal) (φ := .f32) κ "beta2_gain" 0x411FD70A#32) (G (ix2 q p))

/-- The step of an element. -/
def aD : EReal :=
  kDelta (k0_pay190 T (ix2 0 (laneOf p))) (k0_pay191 T (ix2 0 (laneOf p))) (aM G C S q p) (aV G D R q p) (P (ix2 q p))

/-- The scale of a block of first moments. -/
def aSM : EReal := scale (peak fun j => aM G C S q (cell b j))

/-- The code of a first moment. -/
def aCM : BitVec 8 := kCode (aM G C S q p) (aSM G C S q (blockOf p))

/-- The scale of a block of second moments. -/
def aSV : EReal := scale (peak (fun j => aV G D R q (cell b j)) * tenth)

/-- The code of a second moment. -/
def aCV : BitVec 8 := kCode (aV G D R q p) (scale (peak fun j => aV G D R q (cell (blockOf p) j)))

end Whole

/-! ## Where a grid point's blocks sit -/

/-- The array's row of row `i` of grid point `t`. -/
def at_ (t : Fin cfg0.N) (i : Fin 256) : Fin 24064 := ⟨256 * t.val + i.val, by have := t.isLt; have e : cfg0.N = 94 := N_0; omega⟩

/-- Every row of the array is a row of some grid point. -/
theorem rows (n : Fin 24064) : ∃ t i, at_ t i = n :=
  ⟨⟨n.val / 256, by have e : cfg0.N = 94 := N_0; rw [e]; omega⟩, ⟨n.val % 256, by omega⟩, Fin.ext (Nat.div_add_mod _ _)⟩

/-- An index map that moves a block of rows by whole blocks lands at the array's row and the same column. -/
theorem row_place {f : S256x2048.Idx → S24064x2048.Idx} {k : Fin 2 → Nat} {t : Fin cfg0.N} {i : Fin 256} {j : Fin 2048}
    (h : k 0 = t.val ∧ k 1 = 0) (e0 : (f (ix2 i j) 0).val = k 0 * 256 + 1 * i.val) (e1 : (f (ix2 i j) 1).val = k 1 * 2048 + 1 * j.val) :
    f (ix2 i j) = ix2 (at_ t i) j := by
  obtain ⟨h0, h1⟩ := h
  refine Shape.idx_ext₂ (e0.trans ?_) (e1.trans ?_)
  · show k 0 * 256 + 1 * i.val = 256 * t.val + i.val; omega
  · show k 1 * 2048 + 1 * j.val = j.val; omega

/-- The same of the transposed scales, whose rows are columns. -/
theorem turned_place {f : S16x256.Idx → S16x24064.Idx} {k : Fin 2 → Nat} {t : Fin cfg0.N} {b : Fin 16} {i : Fin 256}
    (h : k 0 = 0 ∧ k 1 = t.val) (e0 : (f (ix2 b i) 0).val = k 0 * 16 + 1 * b.val) (e1 : (f (ix2 b i) 1).val = k 1 * 256 + 1 * i.val) :
    f (ix2 b i) = ix2 b (at_ t i) := by
  obtain ⟨h0, h1⟩ := h
  refine Shape.idx_ext₂ (e0.trans ?_) (e1.trans ?_)
  · show k 0 * 16 + 1 * b.val = b.val; omega
  · show k 1 * 256 + 1 * i.val = 256 * t.val + i.val; omega

/-- The blocks of rows of all grid points cover the array. -/
theorem row_cover {f : Fin cfg0.N → S256x2048.Idx → S24064x2048.Idx} {A : Fin cfg0.N → Set S24064x2048.Idx}
    (h : ∀ t i j, f t (ix2 i j) = ix2 (at_ t i) j) (mem : ∀ t y, f t y ∈ A t) (x : S24064x2048.Idx) : ∃ t, x ∈ A t := by
  obtain ⟨n, j, rfl⟩ : ∃ n j, x = ix2 n j := ⟨_, _, eq_ix2 x⟩
  obtain ⟨t, i, rfl⟩ := rows n
  exact ⟨t, h t i j ▸ mem t (ix2 i j)⟩

/-- The blocks of transposed scales of all grid points cover the array. -/
theorem turned_cover {f : Fin cfg0.N → S16x256.Idx → S16x24064.Idx} {A : Fin cfg0.N → Set S16x24064.Idx}
    (h : ∀ t b i, f t (ix2 b i) = ix2 b (at_ t i)) (mem : ∀ t y, f t y ∈ A t) (x : S16x24064.Idx) : ∃ t, x ∈ A t := by
  obtain ⟨b, n, rfl⟩ : ∃ b n, x = ix2 b n := ⟨_, _, eq_ix2 x⟩
  obtain ⟨t, i, rfl⟩ := rows n
  exact ⟨t, h t b i ▸ mem t (ix2 b i)⟩

/-- A block that agrees with an array at each row and column is the array's block. -/
theorem row_block {α : Type} {f : S256x2048.Idx → S24064x2048.Idx} {t : Fin cfg0.N} {o : S256x2048.Idx → α} {A : S24064x2048.Idx → α}
    (h : ∀ i j, f (ix2 i j) = ix2 (at_ t i) j) (key : ∀ i j, o (ix2 i j) = A (ix2 (at_ t i) j)) : o = fun y => A (f y) := by
  funext y
  obtain ⟨a, b, rfl⟩ : ∃ a b, y = ix2 a b := ⟨_, _, eq_ix2 y⟩
  rw [key, h]

/-- A block of transposed scales that agrees with an array at each is the array's block. -/
theorem turned_block {α : Type} {f : S16x256.Idx → S16x24064.Idx} {t : Fin cfg0.N} {o : S16x256.Idx → α} {A : S16x24064.Idx → α}
    (h : ∀ b i, f (ix2 b i) = ix2 b (at_ t i)) (key : ∀ b i, o (ix2 b i) = A (ix2 b (at_ t i))) : o = fun y => A (f y) := by
  funext y
  obtain ⟨a, b, rfl⟩ : ∃ a b, y = ix2 a b := ⟨_, _, eq_ix2 y⟩
  rw [key, h]

/-- The windows of whole rows take at each grid point the block of its own number. -/
theorem row_index : ∀ t : Fin cfg0.N,
    (win0_1.index t 0 = t.val ∧ win0_1.index t 1 = 0) ∧ (win0_2.index t 0 = t.val ∧ win0_2.index t 1 = 0)
    ∧ (win0_3.index t 0 = t.val ∧ win0_3.index t 1 = 0) ∧ (win0_5.index t 0 = t.val ∧ win0_5.index t 1 = 0)
    ∧ (win0_7.index t 0 = t.val ∧ win0_7.index t 1 = 0) ∧ (win0_8.index t 0 = t.val ∧ win0_8.index t 1 = 0)
    ∧ (win0_10.index t 0 = t.val ∧ win0_10.index t 1 = 0) :=
  (by decide +kernel : ∀ t : Fin grid0.N, _)

/-- So do those of transposed scales, along the columns. -/
theorem turned_index : ∀ t : Fin cfg0.N,
    (win0_4.index t 0 = 0 ∧ win0_4.index t 1 = t.val) ∧ (win0_6.index t 0 = 0 ∧ win0_6.index t 1 = t.val)
    ∧ (win0_9.index t 0 = 0 ∧ win0_9.index t 1 = t.val) ∧ (win0_11.index t 0 = 0 ∧ win0_11.index t 1 = t.val) :=
  (by decide +kernel : ∀ t : Fin grid0.N, _)

variable (m : (ℓ : Loc nD τ sig) → Buf (Elt Ideal) ℓ)

/-- Where a grid point's parameters sit. -/
theorem emb1 (t : Fin cfg0.N) (i : Fin 256) (j : Fin 2048) :
    ((cfg0.win 1).blk t).view.emb (ix2 i j : S256x2048.Idx) = (ix2 (at_ t i) j : S24064x2048.Idx) :=
  row_place (row_index t).1 rfl rfl

/-- Where a grid point's gradients sit. -/
theorem emb2 (t : Fin cfg0.N) (i : Fin 256) (j : Fin 2048) :
    ((cfg0.win 2).blk t).view.emb (ix2 i j : S256x2048.Idx) = (ix2 (at_ t i) j : S24064x2048.Idx) :=
  row_place (row_index t).2.1 rfl rfl

/-- Where a grid point's codes of the first moments sit. -/
theorem emb3 (t : Fin cfg0.N) (i : Fin 256) (j : Fin 2048) :
    ((cfg0.win 3).blk t).view.emb (ix2 i j : S256x2048.Idx) = (ix2 (at_ t i) j : S24064x2048.Idx) :=
  row_place (row_index t).2.2.1 rfl rfl

/-- Where a grid point's codes of the second moments sit. -/
theorem emb5 (t : Fin cfg0.N) (i : Fin 256) (j : Fin 2048) :
    ((cfg0.win 5).blk t).view.emb (ix2 i j : S256x2048.Idx) = (ix2 (at_ t i) j : S24064x2048.Idx) :=
  row_place (row_index t).2.2.2.1 rfl rfl

/-- Where a grid point's steps sit. -/
theorem emb7 (t : Fin cfg0.N) (i : Fin 256) (j : Fin 2048) :
    ((cfg0.win 7).blk t).view.emb (ix2 i j : S256x2048.Idx) = (ix2 (at_ t i) j : S24064x2048.Idx) :=
  row_place (row_index t).2.2.2.2.1 rfl rfl

/-- Where a grid point's new codes of the first moments sit. -/
theorem emb8 (t : Fin cfg0.N) (i : Fin 256) (j : Fin 2048) :
    ((cfg0.win 8).blk t).view.emb (ix2 i j : S256x2048.Idx) = (ix2 (at_ t i) j : S24064x2048.Idx) :=
  row_place (row_index t).2.2.2.2.2.1 rfl rfl

/-- Where a grid point's new codes of the second moments sit. -/
theorem emb10 (t : Fin cfg0.N) (i : Fin 256) (j : Fin 2048) :
    ((cfg0.win 10).blk t).view.emb (ix2 i j : S256x2048.Idx) = (ix2 (at_ t i) j : S24064x2048.Idx) :=
  row_place (row_index t).2.2.2.2.2.2 rfl rfl

/-- Where a grid point's scales of the first moments sit. -/
theorem emb4 (t : Fin cfg0.N) (b : Fin 16) (i : Fin 256) :
    ((cfg0.win 4).blk t).view.emb (ix2 b i : S16x256.Idx) = (ix2 b (at_ t i) : S16x24064.Idx) :=
  turned_place (turned_index t).1 rfl rfl

/-- Where a grid point's scales of the second moments sit. -/
theorem emb6 (t : Fin cfg0.N) (b : Fin 16) (i : Fin 256) :
    ((cfg0.win 6).blk t).view.emb (ix2 b i : S16x256.Idx) = (ix2 b (at_ t i) : S16x24064.Idx) :=
  turned_place (turned_index t).2.1 rfl rfl

/-- Where a grid point's new scales of the first moments sit. -/
theorem emb9 (t : Fin cfg0.N) (b : Fin 16) (i : Fin 256) :
    ((cfg0.win 9).blk t).view.emb (ix2 b i : S16x256.Idx) = (ix2 b (at_ t i) : S16x24064.Idx) :=
  turned_place (turned_index t).2.2.1 rfl rfl

/-- Where a grid point's new scales of the second moments sit. -/
theorem emb11 (t : Fin cfg0.N) (b : Fin 16) (i : Fin 256) :
    ((cfg0.win 11).blk t).view.emb (ix2 b i : S16x256.Idx) = (ix2 b (at_ t i) : S16x24064.Idx) :=
  turned_place (turned_index t).2.2.2 rfl rfl

/-! ## The blocks a grid point reads -/

/-- The transposed scales of the first moments. -/
theorem scales1 (c : Dev nD) (q : Fin 24064) (b : Fin 16) : V m c main_v1 (ix2 b q) = m ((c : Thread nD τ).loc main_arg3) (ix2 q b) := by
  have e : V m c main_v1 = transpose S16x24064 [1, 0] (m ((c : Thread nD τ).loc main_arg3)) transposes_S24064x16_S16x24064_1_0 := by
    show StableHlo.after hostOps0 _ (Proc.devRef .tc main_v1) = _
    after_results
  rw [e]; simp only [pointwise]

/-- The transposed scales of the second moments. -/
theorem scales2 (c : Dev nD) (q : Fin 24064) (b : Fin 16) : V m c main_v2 (ix2 b q) = m ((c : Thread nD τ).loc main_arg5) (ix2 q b) := by
  have e : V m c main_v2 = transpose S16x24064 [1, 0] (m ((c : Thread nD τ).loc main_arg5)) transposes_S24064x16_S16x24064_1_0 := by
    show StableHlo.after hostOps0 _ (Proc.devRef .tc main_v2) = _
    after_results
  rw [e]; simp only [pointwise]

/-- The step count. -/
theorem steps (c : Dev nD) : V m c main_v0 (ix1 0) = m ((c : Thread nD τ).loc main_arg6) ix0 := by
  have e : V m c main_v0 = shapeCast S1 (m ((c : Thread nD τ).loc main_arg6)) shapeCasts_S_S1 := by
    show StableHlo.after hostOps0 _ (Proc.devRef .tc main_v0) = _
    after_results
    rfl
  rw [e]
  exact congrArg (m ((c : Thread nD τ).loc main_arg6)) (funext fun a => a.elim0)

/-- The step count a grid point reads. -/
theorem blk0 (c : Dev nD) (t : Fin cfg0.N) : iblk m c 0 t (ix1 0 : S1.Idx) = m ((c : Thread nD τ).loc main_arg6) ix0 := by
  refine Eq.trans ?_ (steps m c)
  show V m c main_v0 (((cfg0.win 0).blk t).view.emb (ix1 0 : S1.Idx)) = _
  exact congrArg (V m c main_v0) ((eq_ix1 (n0 := 1) _).trans (congrArg ix1 (Subsingleton.elim (α := Fin 1) _ _)))

/-- The parameters a grid point reads. -/
theorem blk1 (c : Dev nD) (t : Fin cfg0.N) (i : Fin 256) (j : Fin 2048) :
    iblk m c 1 t (ix2 i j : S256x2048.Idx) = m ((c : Thread nD τ).loc main_arg0) (ix2 (at_ t i) j) :=
  (congrArg (V m c main_arg0) (emb1 t i j)).trans (congrFun (V_main_arg0 m c) _)

/-- The gradients a grid point reads. -/
theorem blk2 (c : Dev nD) (t : Fin cfg0.N) (i : Fin 256) (j : Fin 2048) :
    iblk m c 2 t (ix2 i j : S256x2048.Idx) = m ((c : Thread nD τ).loc main_arg1) (ix2 (at_ t i) j) :=
  (congrArg (V m c main_arg1) (emb2 t i j)).trans (congrFun (V_main_arg1 m c) _)

/-- The codes of the first moments a grid point reads. -/
theorem blk3 (c : Dev nD) (t : Fin cfg0.N) (i : Fin 256) (j : Fin 2048) :
    iblk m c 3 t (ix2 i j : S256x2048.Idx) = m ((c : Thread nD τ).loc main_arg2) (ix2 (at_ t i) j) :=
  (congrArg (V m c main_arg2) (emb3 t i j)).trans (congrFun (V_main_arg2 m c) _)

/-- The codes of the second moments a grid point reads. -/
theorem blk5 (c : Dev nD) (t : Fin cfg0.N) (i : Fin 256) (j : Fin 2048) :
    iblk m c 5 t (ix2 i j : S256x2048.Idx) = m ((c : Thread nD τ).loc main_arg4) (ix2 (at_ t i) j) :=
  (congrArg (V m c main_arg4) (emb5 t i j)).trans (congrFun (V_main_arg4 m c) _)

/-- The scales of the first moments a grid point reads. -/
theorem blk4 (c : Dev nD) (t : Fin cfg0.N) (b : Fin 16) (i : Fin 256) :
    iblk m c 4 t (ix2 b i : S16x256.Idx) = m ((c : Thread nD τ).loc main_arg3) (ix2 (at_ t i) b) :=
  (congrArg (V m c main_v1) (emb4 t b i)).trans (scales1 m c _ _)

/-- The scales of the second moments a grid point reads. -/
theorem blk6 (c : Dev nD) (t : Fin cfg0.N) (b : Fin 16) (i : Fin 256) :
    iblk m c 6 t (ix2 b i : S16x256.Idx) = m ((c : Thread nD τ).loc main_arg5) (ix2 (at_ t i) b) :=
  (congrArg (V m c main_v2) (emb6 t b i)).trans (scales2 m c _ _)

/-- A grid point's first moments are the array's, at its rows. -/
theorem pointM (c : Dev nD) (t : Fin cfg0.N) (i : Fin 256) (j : Fin 2048) :
    gM (iblk m c 2 t) (iblk m c 3 t) (k0_pay192 (iblk m c 4 t)) (ix2 i j) = aM (m ((c : Thread nD τ).loc main_arg1)) (m ((c : Thread nD τ).loc main_arg2)) (m ((c : Thread nD τ).loc main_arg3)) (at_ t i) j := by
  unfold gM aM
  simp only [ix2_0, ix2_1]
  rw [decay1_apply (iblk m c 4 t) i (blockOf j), blk2 m c t i j, blk3 m c t i j, blk4 m c t (blockOf j) i]

/-- A grid point's second moments are the array's, at its rows. -/
theorem pointV (c : Dev nD) (t : Fin cfg0.N) (i : Fin 256) (j : Fin 2048) :
    gV (iblk m c 2 t) (iblk m c 5 t) (k0_pay193 (iblk m c 6 t)) (ix2 i j) = aV (m ((c : Thread nD τ).loc main_arg1)) (m ((c : Thread nD τ).loc main_arg4)) (m ((c : Thread nD τ).loc main_arg5)) (at_ t i) j := by
  unfold gV aV
  simp only [ix2_0, ix2_1]
  rw [decay2_apply (iblk m c 6 t) i (blockOf j), blk2 m c t i j, blk5 m c t i j, blk6 m c t (blockOf j) i]

/-! ## The arrays after the run -/

/-- The array of the steps. -/
def G7 (c : Dev nD) (y : S24064x2048.Idx) : EReal :=
  aD ((m ((c : Thread nD τ).loc main_arg6)) ix0) (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (y 0) (y 1)

/-- What each grid point leaves of it is its block. -/
theorem flushed7 (c : Dev nD) (t : Fin cfg0.N) :
    (dats m 0 c).flushed 7 t = ((cfg0.win 7).blk t).view.read (Elt Ideal) (G7 m c) := by
  refine (after0_7 m c t).trans (row_block (A := G7 m c) (emb7 t) fun i j => ?_)
  unfold outsAt0; dsimp only
  rw [out7]
  unfold G7
  unfold gD aD
  simp only [ix2_0, ix2_1]
  rw [pointM m c t i j, pointV m c t i j, blk1 m c t i j, blk0 m c t]

/-- It is whole after the run. -/
theorem arr7 (c : Dev nD) : (dats m 0 c).arrAt 7 cfg0.N = G7 m c :=
  (dats m 0 c).arrAt_eq_of_cover 7 (G7 m c) (fun t _ => flushed7 m c t)
    fun x => (row_cover emb7 (fun t => ((cfg0.win 7).blk t).view.emb_mem_set) x).imp fun t h => ⟨flush0_7 t, h⟩

/-- The array of the codes of the first moments. -/
def G8 (c : Dev nD) (y : S24064x2048.Idx) : BitVec 8 :=
  aCM (m ((c : Thread nD τ).loc main_arg1)) (m ((c : Thread nD τ).loc main_arg2)) (m ((c : Thread nD τ).loc main_arg3)) (y 0) (y 1)

/-- What each grid point leaves of it is its block. -/
theorem flushed8 (c : Dev nD) (t : Fin cfg0.N) :
    (dats m 0 c).flushed 8 t = ((cfg0.win 8).blk t).view.read (Elt Ideal) (G8 m c) := by
  refine (after0_8 m c t).trans (row_block (A := G8 m c) (emb8 t) fun i j => ?_)
  unfold outsAt0; dsimp only
  rw [out8]
  unfold G8
  unfold gCM gSM aCM aSM
  simp only [ix2_0, ix2_1, pointM m c t]

/-- It is whole after the run. -/
theorem arr8 (c : Dev nD) : (dats m 0 c).arrAt 8 cfg0.N = G8 m c :=
  (dats m 0 c).arrAt_eq_of_cover 8 (G8 m c) (fun t _ => flushed8 m c t)
    fun x => (row_cover emb8 (fun t => ((cfg0.win 8).blk t).view.emb_mem_set) x).imp fun t h => ⟨flush0_8 t, h⟩

/-- The array of the scales of the first moments, block by row. -/
def G9 (c : Dev nD) (y : S16x24064.Idx) : EReal :=
  aSM (m ((c : Thread nD τ).loc main_arg1)) (m ((c : Thread nD τ).loc main_arg2)) (m ((c : Thread nD τ).loc main_arg3)) (y 1) (y 0)

/-- What each grid point leaves of it is its block. -/
theorem flushed9 (c : Dev nD) (t : Fin cfg0.N) :
    (dats m 0 c).flushed 9 t = ((cfg0.win 9).blk t).view.read (Elt Ideal) (G9 m c) := by
  refine (after0_9 m c t).trans (turned_block (A := G9 m c) (emb9 t) fun b i => ?_)
  unfold outsAt0; dsimp only
  refine (out9 ..).trans ?_
  unfold G9
  unfold gSM aSM
  simp only [ix2_0, ix2_1, pointM m c t]

/-- It is whole after the run. -/
theorem arr9 (c : Dev nD) : (dats m 0 c).arrAt 9 cfg0.N = G9 m c :=
  (dats m 0 c).arrAt_eq_of_cover 9 (G9 m c) (fun t _ => flushed9 m c t)
    fun x => (turned_cover emb9 (fun t => ((cfg0.win 9).blk t).view.emb_mem_set) x).imp fun t h => ⟨flush0_9 t, h⟩

/-- The array of the codes of the second moments. -/
def G10 (c : Dev nD) (y : S24064x2048.Idx) : BitVec 8 :=
  aCV (m ((c : Thread nD τ).loc main_arg1)) (m ((c : Thread nD τ).loc main_arg4)) (m ((c : Thread nD τ).loc main_arg5)) (y 0) (y 1)

/-- What each grid point leaves of it is its block. -/
theorem flushed10 (c : Dev nD) (t : Fin cfg0.N) :
    (dats m 0 c).flushed 10 t = ((cfg0.win 10).blk t).view.read (Elt Ideal) (G10 m c) := by
  refine (after0_10 m c t).trans (row_block (A := G10 m c) (emb10 t) fun i j => ?_)
  unfold outsAt0; dsimp only
  rw [out10]
  unfold G10
  unfold gCV aCV
  simp only [ix2_0, ix2_1, pointV m c t]

/-- It is whole after the run. -/
theorem arr10 (c : Dev nD) : (dats m 0 c).arrAt 10 cfg0.N = G10 m c :=
  (dats m 0 c).arrAt_eq_of_cover 10 (G10 m c) (fun t _ => flushed10 m c t)
    fun x => (row_cover emb10 (fun t => ((cfg0.win 10).blk t).view.emb_mem_set) x).imp fun t h => ⟨flush0_10 t, h⟩

/-- The array of the scales of the second moments, block by row. -/
def G11 (c : Dev nD) (y : S16x24064.Idx) : EReal :=
  aSV (m ((c : Thread nD τ).loc main_arg1)) (m ((c : Thread nD τ).loc main_arg4)) (m ((c : Thread nD τ).loc main_arg5)) (y 1) (y 0)

/-- What each grid point leaves of it is its block. -/
theorem flushed11 (c : Dev nD) (t : Fin cfg0.N) :
    (dats m 0 c).flushed 11 t = ((cfg0.win 11).blk t).view.read (Elt Ideal) (G11 m c) := by
  refine (after0_11 m c t).trans (turned_block (A := G11 m c) (emb11 t) fun b i => ?_)
  unfold outsAt0; dsimp only
  refine (out11 ..).trans ?_
  unfold G11
  unfold gSV aSV
  simp only [ix2_0, ix2_1, pointV m c t]

/-- It is whole after the run. -/
theorem arr11 (c : Dev nD) : (dats m 0 c).arrAt 11 cfg0.N = G11 m c :=
  (dats m 0 c).arrAt_eq_of_cover 11 (G11 m c) (fun t _ => flushed11 m c t)
    fun x => (turned_cover emb11 (fun t => ((cfg0.win 11).blk t).view.emb_mem_set) x).imp fun t h => ⟨flush0_11 t, h⟩

/-- The scales of the first moments, transposed back by the host. -/
theorem tail4 (c : Dev nD) :
    Pipeline.afterTail₀ cfgs (dats m) 0 (V0 m) [hostOps1] c main_v4 = fun z => aSM (m ((c : Thread nD τ).loc main_arg1)) (m ((c : Thread nD τ).loc main_arg2)) (m ((c : Thread nD τ).loc main_arg3)) (z 0) (z 1) := by
  have e : Pipeline.afterTail₀ cfgs (dats m) 0 (V0 m) [hostOps1] c main_v4
      = transpose S24064x16 [1, 0] (G9 m c) transposes_S16x24064_S24064x16_1_0 := by
    unfold Pipeline.afterTail₀
    show StableHlo.after hostOps1 _ (Proc.devRef .tc main_v4) = _
    after_results
    exact congrArg (fun x => transpose S24064x16 [1, 0] x transposes_S16x24064_S24064x16_1_0)
      ((Pipeline.withArrays_arr spec0 (by decide) c (V0 m c) (fun w => (dats m 0 c).arrAt w cfg0.N) 9).trans (arr9 m c))
  rw [e]
  funext z
  obtain ⟨q, b, rfl⟩ : ∃ q b, z = ix2 q b := ⟨_, _, eq_ix2 z⟩
  simp only [pointwise, G9]

/-- The scales of the second moments, transposed back by the host. -/
theorem tail5 (c : Dev nD) :
    Pipeline.afterTail₀ cfgs (dats m) 0 (V0 m) [hostOps1] c main_v5 = fun z => aSV (m ((c : Thread nD τ).loc main_arg1)) (m ((c : Thread nD τ).loc main_arg4)) (m ((c : Thread nD τ).loc main_arg5)) (z 0) (z 1) := by
  have e : Pipeline.afterTail₀ cfgs (dats m) 0 (V0 m) [hostOps1] c main_v5
      = transpose S24064x16 [1, 0] (G11 m c) transposes_S16x24064_S24064x16_1_0 := by
    unfold Pipeline.afterTail₀
    show StableHlo.after hostOps1 _ (Proc.devRef .tc main_v5) = _
    after_results
    exact congrArg (fun x => transpose S24064x16 [1, 0] x transposes_S16x24064_S24064x16_1_0)
      ((Pipeline.withArrays_arr spec0 (by decide) c (V0 m c) (fun w => (dats m 0 c).arrAt w cfg0.N) 11).trans (arr11 m c))
  rw [e]
  funext z
  obtain ⟨q, b, rfl⟩ : ∃ q b, z = ix2 q b := ⟨_, _, eq_ix2 z⟩
  simp only [pointwise, G11]

/-- After every run the five results are these functions of the arguments, and the arguments are as they were. -/
theorem run (ρ : Dev nD → PrngReg) :
    θ_run defs (onTc (τ := τ) (main (F := Ideal))) ⟨m, fun _ => 0, ρ⟩ (fun r => ∀ c : Dev nD,
      (r.2.mem ((c.tc : Thread nD τ).loc main_v3_0) = (fun y => aD ((m ((c : Thread nD τ).loc main_arg6)) ix0) (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (y 0) (y 1) : S24064x2048.Idx → EReal)
      ∧ r.2.mem ((c.tc : Thread nD τ).loc main_v3_1) = (fun y => aCM (m ((c : Thread nD τ).loc main_arg1)) (m ((c : Thread nD τ).loc main_arg2)) (m ((c : Thread nD τ).loc main_arg3)) (y 0) (y 1) : S24064x2048.Idx → BitVec 8)
      ∧ r.2.mem ((c.tc : Thread nD τ).loc main_v4) = (fun y => aSM (m ((c : Thread nD τ).loc main_arg1)) (m ((c : Thread nD τ).loc main_arg2)) (m ((c : Thread nD τ).loc main_arg3)) (y 0) (y 1) : S24064x16.Idx → EReal)
      ∧ r.2.mem ((c.tc : Thread nD τ).loc main_v3_3) = (fun y => aCV (m ((c : Thread nD τ).loc main_arg1)) (m ((c : Thread nD τ).loc main_arg4)) (m ((c : Thread nD τ).loc main_arg5)) (y 0) (y 1) : S24064x2048.Idx → BitVec 8)
      ∧ r.2.mem ((c.tc : Thread nD τ).loc main_v5) = (fun y => aSV (m ((c : Thread nD τ).loc main_arg1)) (m ((c : Thread nD τ).loc main_arg4)) (m ((c : Thread nD τ).loc main_arg5)) (y 0) (y 1) : S24064x16.Idx → EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono ?_ (θ_run_and (run_main m ρ) (unchanged m ρ))
  rintro r ⟨h, hu⟩ c
  refine ⟨⟨?_, ?_, ?_, ?_, ?_⟩, hu c⟩
  · exact ((h c).1 7).trans (arr7 m c)
  · exact ((h c).1 8).trans (arr8 m c)
  · exact ((h c).2 main_v4 (Pipeline.mem_restRefs_of main_v4 (by decide) (by decide))).trans (tail4 m c)
  · exact ((h c).1 10).trans (arr10 m c)
  · exact ((h c).2 main_v5 (Pipeline.mem_restRefs_of main_v5 (by decide) (by decide))).trans (tail5 m c)

end Cert.KernelIdeal.Val

end
-- ==== Proof.K.Reference.lean ====
module

public import proofs.«01_k».proof.Proof.K.Spec
public import proofs.«01_k».proof.Proof.Gen.ReferenceIdeal.Value
public import Idealize.ShloMosaic.Lib.Pipeline.Value
public import Idealize.ShloMosaic.Lib.Pipeline.ValueKit.Tiles
public import Idealize.ShloMosaic.Lib.Pointwise

/-! What the reference computes, element by element, as functions of its argument arrays. -/

@[expose] public section

noncomputable section

namespace Cert.ReferenceIdeal.Val

open Idealize.ShloMosaic Idealize.ShloMosaic.TcCoe Idealize.SL.Sem Cert.ReferenceIdeal Cert.ReferenceIdeal.Gen Adam

/-! ## Its values at an index -/

section Values

variable (T : Elt Ideal .i32) (P : Vec Ideal S24064x2048 .f32) (G : Vec Ideal S24064x2048 .bf16)
  (C D : Vec Ideal S24064x2048 .i8) (S R : Vec Ideal S24064x16 .f32) (x : FVec Ideal S24064x16x128 .f32)
  (q : Fin 24064) (p : Fin 2048) (b : Fin 16) (j : Fin 128)

/-- The new first moment of an element. -/
def bM : EReal := rM (C (ix2 q p)) (S (ix2 q (blockOf p))) (G (ix2 q p))

/-- The new second moment of an element. -/
def bV : EReal := rV (D (ix2 q p)) (R (ix2 q (blockOf p))) (G (ix2 q p))

/-- The step of an element. -/
def bD : EReal := rDelta (rBias (9 / 10) T) (rBias (999 / 1000) T) (bM G C S q p) (bV G D R q p) (P (ix2 q p))

/-- The scale of a block of moments. -/
def bS (f : Fin 2048 → EReal) : EReal := scale (peak fun j => f (cell b j))

/-- The code of a moment. -/
def bC (f : Fin 2048 → EReal) : BitVec 8 := rCode (f p) (bS (blockOf p) f)

/-- The column of a block's lane, the product written the other way about. -/
theorem cell_comm (h : b.val * 128 + j.val < 2048) : (⟨b.val * 128 + j.val, h⟩ : Fin 2048) = cell b j :=
  Fin.ext (by simp only [cell]; omega)

/-- The first moments, block by lane. -/
theorem moment1_apply : k0_pay7 G C S (ix3 q b j) = bM G C S q (cell b j) := by
  unfold bM
  rw [blockOf_cell]
  simp only [k0_pay7, k0_pay6, pointwise, cell_comm]
  rfl

/-- The second moments, block by lane. -/
theorem moment2_apply : k0_pay8 G D R (ix3 q b j) = bV G D R q (cell b j) := by
  unfold bV
  rw [blockOf_cell]
  simp only [k0_pay8, k0_pay6, pointwise, cell_comm]
  rfl

/-- The bias correction of the first moments. -/
theorem bias1_apply (z : S1x1x1.Idx) : k0_pay4 T z = rBias (9 / 10) T := by
  simp only [k0_pay4, k0_pay3, pointwise]
  rfl

/-- The bias correction of the second moments. -/
theorem bias2_apply (z : S1x1x1.Idx) : k0_pay5 T z = rBias (999 / 1000) T := by
  simp only [k0_pay5, k0_pay3, pointwise]
  rfl

/-- The number a one of the integers denotes. -/
theorem one_word : num (1#32) = 1 := by
  have e : (1#32 : BitVec 32).toInt = 1 := by decide
  simp only [num, e, Int.cast_one, EReal.coe_one]

/-- The largest magnitude of a block. -/
theorem peak_apply : multiReduction .maximumf [2] S24064x16 (absf x) 0xFF800000#32 reduces_S24064x16x128_S24064x16 (.inl rfl) rfl (ix2 q b)
    = peak fun j => x (ix3 q b j) := by
  simp only [pointwise]
  rfl

/-- One where the entry is zero, else the entry over 127. -/
theorem over_apply (y : FVec Ideal S24064x16 .f32) (a : EReal) (h : y (ix2 q b) = a) :
    select (cmpf .oeq y (broadcast S24064x16 (Scalar.ofBits (F := Ideal) .f32 0x00000000#32))) (sitofp .f32 (broadcast S24064x16 1#32))
      (divf y (broadcast S24064x16 (Scalar.ofBits (F := Ideal) .f32 0x42FE0000#32))) (ix2 q b) = scale a := by
  subst h
  unfold scale
  rw [← one_word]
  simp only [pointwise]
  rfl

/-- A block's scale. -/
theorem scale_apply : k0_pay10 x (ix2 q b) = scale (peak fun j => x (ix3 q b j)) := by
  delta k0_pay10
  exact over_apply q b _ _ (peak_apply x q b)

/-- A block's scale, of magnitudes. -/
theorem scale_abs_apply : k0_pay1 (k0_pay12 x) (ix2 q b) = scale (peak fun j => x (ix3 q b j)) := by
  delta k0_pay1 k0_pay12
  exact over_apply q b _ _ (peak_apply x q b)

/-- A quotient by the blocks' scales. -/
theorem quot_apply (z : FVec Ideal S24064x16 .f32) :
    divf x (broadcastTo S24064x16x128 (shapeCast S24064x16x1 z shapeCasts_S24064x16_S24064x16x1) broadcasts_S24064x16x1_S24064x16x128) (ix3 q b j)
      = Ideal.div (x (ix3 q b j)) (z (ix2 q b)) := by
  simp only [pointwise]
  rfl

/-- A quotient rounded and clipped. -/
theorem clip_apply (a : EReal) (h : x (ix3 q b j) = a) :
    minimumf (broadcast S24064x16x128 (Scalar.ofBits (F := Ideal) .f32 0x42FE0000#32))
      (maximumf (broadcast S24064x16x128 (Scalar.ofBits (F := Ideal) .f32 0xC2FE0000#32)) (roundeven x)) (ix3 q b j)
      = min (w 0x42FE0000#32) (max (w 0xC2FE0000#32) (Ideal.liftRound Ideal.roundHalfEven a)) := by
  subst h
  simp only [pointwise]

/-- An integer of each element, laid out by column. -/
theorem flat_apply (a : EReal) (h : x (ix3 q (blockOf p) (laneOf p)) = a) :
    shapeCast S24064x2048 (fptosi 8 x : IVec S24064x16x128 8) shapeCasts_S24064x16x128_S24064x2048 (ix2 q p) = Ideal.fptosi 8 a := by
  subst h
  simp only [pointwise]
  rfl

/-- The codes. -/
theorem code1_apply : k0_pay11 x (ix2 q p)
    = rCode (x (ix3 q (blockOf p) (laneOf p))) (k0_pay10 x (ix2 q (blockOf p))) := by
  delta k0_pay11
  exact flat_apply _ q p _ (clip_apply _ q _ _ _ (quot_apply x q _ _ _))

/-- The codes, from magnitudes. -/
theorem code2_apply (y : FVec Ideal S24064x16x128 .f32) : k0_pay2 x y (ix2 q p)
    = rCode (x (ix3 q (blockOf p) (laneOf p))) (k0_pay1 y (ix2 q (blockOf p))) := by
  delta k0_pay2
  exact flat_apply _ q p _ (clip_apply _ q _ _ _ (quot_apply x q _ _ _))

/-- The steps. -/
theorem delta_apply (v7 v12 : FVec Ideal S1x1x1 .f32) (x y : FVec Ideal S24064x16x128 .f32) :
    k0_pay9 v7 v12 x y P (ix2 q p) = rDelta (v7 (ix3 0 0 0)) (v12 (ix3 0 0 0)) (x (ix3 q (blockOf p) (laneOf p)))
      (y (ix3 q (blockOf p) (laneOf p))) (P (ix2 q p)) := by
  simp only [k0_pay9, pointwise]
  rfl

/-- The steps, of the whole arrays. -/
theorem delta_whole : k0_pay9 (k0_pay4 T) (k0_pay5 T) (k0_pay7 G C S) (k0_pay8 G D R) P
    = fun y : S24064x2048.Idx => bD T P G C D S R (y 0) (y 1) := by
  funext y
  obtain ⟨q, p, rfl⟩ : ∃ q p, y = ix2 q p := ⟨_, _, eq_ix2 y⟩
  rw [delta_apply, bias1_apply, bias2_apply, moment1_apply, moment2_apply, cell_of]
  rfl

/-- The scales of the first moments. -/
theorem scale1_whole : k0_pay10 (k0_pay7 G C S) = fun z : S24064x16.Idx => bS (z 1) (bM G C S (z 0)) := by
  funext z
  obtain ⟨q, b, rfl⟩ : ∃ q b, z = ix2 q b := ⟨_, _, eq_ix2 z⟩
  rw [scale_apply]
  simp only [moment1_apply]
  rfl

/-- The scales of the second moments. -/
theorem scale2_whole : k0_pay1 (k0_pay12 (k0_pay8 G D R)) = fun z : S24064x16.Idx => bS (z 1) (bV G D R (z 0)) := by
  funext z
  obtain ⟨q, b, rfl⟩ : ∃ q b, z = ix2 q b := ⟨_, _, eq_ix2 z⟩
  rw [scale_abs_apply]
  simp only [moment2_apply]
  rfl

/-- The codes of the first moments. -/
theorem code1_whole : k0_pay11 (k0_pay7 G C S) = fun y : S24064x2048.Idx => bC (y 1) (bM G C S (y 0)) := by
  funext y
  obtain ⟨q, p, rfl⟩ : ∃ q p, y = ix2 q p := ⟨_, _, eq_ix2 y⟩
  rw [code1_apply, scale1_whole, moment1_apply, cell_of]
  rfl

/-- The codes of the second moments. -/
theorem code2_whole : k0_pay2 (k0_pay8 G D R) (k0_pay12 (k0_pay8 G D R))
    = fun y : S24064x2048.Idx => bC (y 1) (bV G D R (y 0)) := by
  funext y
  obtain ⟨q, p, rfl⟩ : ∃ q p, y = ix2 q p := ⟨_, _, eq_ix2 y⟩
  rw [code2_apply, scale2_whole, moment2_apply, cell_of]
  rfl

end Values

end Cert.ReferenceIdeal.Val

end
-- ==== Proof.K.ReferenceRun.lean ====
module

public import proofs.«01_k».proof.Proof.K.Reference

/-! The reference's five results after every run: the whole arrays are its one block. -/

@[expose] public section

noncomputable section

namespace Cert.ReferenceIdeal.Val

open Idealize.ShloMosaic Idealize.ShloMosaic.TcCoe Idealize.SL.Sem Cert.ReferenceIdeal Cert.ReferenceIdeal.Gen Adam

/-! ## A window on a whole array -/

/-- The block of a window on a whole array is the array, index for index. -/
theorem whole_emb {s : Shape} {e : EltTy} {cs : CoreSpace} (b : Memref sig .tc .hbm s e) (io sync : Bool)
    (stage : Memref sig .tc (.core cs) ⟨s.rank, s.size⟩ e) (sem : DmaSem sig) (hb : b.IsWhole) (hs : stage.IsWhole)
    (t : Fin Pipeline.Grid.none.N) (j : s.Idx) :
    ((Pipeline.Window.whole b io sync stage sem hb hs).blk t).view.emb j = b.view.emb j := by
  refine congrArg b.view.emb (funext fun a => Fin.ext ?_)
  show 0 * s.size a + 1 * (j a).val = (j a).val
  omega

/-- Two zeros are zero everywhere. -/
theorem zero2 : (![0, 0] : Fin 2 → Nat) = fun _ => 0 := by decide

/-- One zero is zero everywhere. -/
theorem zero1 : (![0] : Fin 1 → Nat) = fun _ => 0 := by decide

/-! ## What the body leaves -/

/-- A load of the whole of an array holding `x` reads `x`. -/
theorem load {sp : Space} {S : Shape} {e : EltTy} (v : Memref sig .tc sp S e) (h : v.IsWhole) {off : Fin S.rank → Nat}
    (ho : off = fun _ => 0) (inb : ∀ a, off a + S.size a ≤ S.size a) (x : S.Idx → Elt Ideal e) :
    View.readAt (Elt Ideal) v.view (Rect.unit off S.size inb).toLoadRect (h.unread x) = x := by
  rw [View.readAt_eq_ld, h.read_unread, View.ld_unit_zero ho]

section Body

variable (c : Dev nD)
  (arg0 : Memref sig .tc .smem S1 .i32) (harg0 : arg0.IsWhole)
  (arg1 : Memref sig .tc .vmem S24064x2048 .f32) (harg1 : arg1.IsWhole)
  (arg2 : Memref sig .tc .vmem S24064x2048 .bf16) (harg2 : arg2.IsWhole)
  (arg3 : Memref sig .tc .vmem S24064x2048 .i8) (harg3 : arg3.IsWhole)
  (arg4 : Memref sig .tc .vmem S24064x16 .f32) (harg4 : arg4.IsWhole)
  (arg5 : Memref sig .tc .vmem S24064x2048 .i8) (harg5 : arg5.IsWhole)
  (arg6 : Memref sig .tc .vmem S24064x16 .f32) (harg6 : arg6.IsWhole)
  (arg7 : Memref sig .tc .vmem S24064x2048 .f32) (harg7 : arg7.IsWhole)
  (arg8 : Memref sig .tc .vmem S24064x2048 .i8) (harg8 : arg8.IsWhole)
  (arg9 : Memref sig .tc .vmem S24064x16 .f32) (harg9 : arg9.IsWhole)
  (arg10 : Memref sig .tc .vmem S24064x2048 .i8) (harg10 : arg10.IsWhole)
  (arg11 : Memref sig .tc .vmem S24064x16 .f32) (harg11 : arg11.IsWhole)
  (x0 : Vec Ideal S1 .i32) (x1 : Vec Ideal S24064x2048 .f32) (x2 : Vec Ideal S24064x2048 .bf16) (x3 : Vec Ideal S24064x2048 .i8)
  (x4 : Vec Ideal S24064x16 .f32) (x5 : Vec Ideal S24064x2048 .i8) (x6 : Vec Ideal S24064x16 .f32)

/-- The steps. -/
theorem out7 : out0_A_7 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6
    = k0_pay9 (k0_pay4 (x0 (Shape.Idx.first (s := S1) (by decide)))) (k0_pay5 (x0 (Shape.Idx.first (s := S1) (by decide)))) (k0_pay7 x2 x3 x4) (k0_pay8 x2 x5 x6) x1 := by
  unfold out0_A_7
  rw [View.read_writes_junk_eq_canon]
  unfold kernelRun0_A; dsimp only
  sl_unfold_words
  rw [View.canon_unit_zero zero2]
  simp only [load (S := S24064x2048) _ _ zero2, load (S := S24064x16) _ _ zero2, load (S := S1) _ _ zero1]

/-- The codes of the first moments. -/
theorem out8 : out0_A_8 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6
    = k0_pay11 (k0_pay7 x2 x3 x4) := by
  unfold out0_A_8
  rw [View.read_writes_junk_eq_canon]
  unfold kernelRun0_A; dsimp only
  sl_unfold_words
  rw [View.canon_unit_zero zero2]
  simp only [load (S := S24064x2048) _ _ zero2, load (S := S24064x16) _ _ zero2, load (S := S1) _ _ zero1]

/-- The scales of the first moments. -/
theorem out9 : out0_A_9 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6
    = k0_pay10 (k0_pay7 x2 x3 x4) := by
  unfold out0_A_9
  rw [View.read_writes_junk_eq_canon]
  unfold kernelRun0_A; dsimp only
  sl_unfold_words
  rw [View.canon_unit_zero zero2]
  simp only [load (S := S24064x2048) _ _ zero2, load (S := S24064x16) _ _ zero2, load (S := S1) _ _ zero1]

/-- The codes of the second moments. -/
theorem out10 : out0_A_10 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6
    = k0_pay2 (k0_pay8 x2 x5 x6) (k0_pay12 (k0_pay8 x2 x5 x6)) := by
  unfold out0_A_10
  rw [View.read_writes_junk_eq_canon]
  unfold kernelRun0_A; dsimp only
  sl_unfold_words
  rw [View.canon_unit_zero zero2]
  simp only [load (S := S24064x2048) _ _ zero2, load (S := S24064x16) _ _ zero2, load (S := S1) _ _ zero1]

/-- The scales of the second moments. -/
theorem out11 : out0_A_11 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6
    = k0_pay1 (k0_pay12 (k0_pay8 x2 x5 x6)) := by
  unfold out0_A_11
  rw [View.read_writes_junk_eq_canon]
  unfold kernelRun0_A; dsimp only
  sl_unfold_words
  rw [View.canon_unit_zero zero2]
  simp only [load (S := S24064x2048) _ _ zero2, load (S := S24064x16) _ _ zero2, load (S := S1) _ _ zero1]

end Body

variable (m : (ℓ : Loc nD τ sig) → Buf (Elt Ideal) ℓ)

/-- The step count. -/
theorem steps (c : Dev nD) : V m c main_v0 (ix1 0) = m ((c : Thread nD τ).loc main_arg6) ix0 := by
  have e : V m c main_v0 = shapeCast S1 (m ((c : Thread nD τ).loc main_arg6)) shapeCasts_S_S1 := by
    show StableHlo.after hostOps0 _ (Proc.devRef .tc main_v0) = _
    after_results
    rfl
  rw [e]
  exact congrArg (m ((c : Thread nD τ).loc main_arg6)) (funext fun a => a.elim0)

/-- The block of the parameters is the argument. -/
theorem blk1 (c : Dev nD) (t : Fin cfg0.N) : iblk m c 1 t = m ((c : Thread nD τ).loc main_arg0) :=
  (funext fun j => congrArg (V m c main_arg0) (whole_emb win0_1.arr _ _ _ _ (Memref.isWhole_whole _) (hstage0_1 0) t j : (win0_1.blk t).view.emb j = j)).trans (V_main_arg0 m c)

/-- The block of the gradients is the argument. -/
theorem blk2 (c : Dev nD) (t : Fin cfg0.N) : iblk m c 2 t = m ((c : Thread nD τ).loc main_arg1) :=
  (funext fun j => congrArg (V m c main_arg1) (whole_emb win0_2.arr _ _ _ _ (Memref.isWhole_whole _) (hstage0_2 0) t j : (win0_2.blk t).view.emb j = j)).trans (V_main_arg1 m c)

/-- The block of the first moments' codes is the argument. -/
theorem blk3 (c : Dev nD) (t : Fin cfg0.N) : iblk m c 3 t = m ((c : Thread nD τ).loc main_arg2) :=
  (funext fun j => congrArg (V m c main_arg2) (whole_emb win0_3.arr _ _ _ _ (Memref.isWhole_whole _) (hstage0_3 0) t j : (win0_3.blk t).view.emb j = j)).trans (V_main_arg2 m c)

/-- The block of the first moments' scales is the argument. -/
theorem blk4 (c : Dev nD) (t : Fin cfg0.N) : iblk m c 4 t = m ((c : Thread nD τ).loc main_arg3) :=
  (funext fun j => congrArg (V m c main_arg3) (whole_emb win0_4.arr _ _ _ _ (Memref.isWhole_whole _) (hstage0_4 0) t j : (win0_4.blk t).view.emb j = j)).trans (V_main_arg3 m c)

/-- The block of the second moments' codes is the argument. -/
theorem blk5 (c : Dev nD) (t : Fin cfg0.N) : iblk m c 5 t = m ((c : Thread nD τ).loc main_arg4) :=
  (funext fun j => congrArg (V m c main_arg4) (whole_emb win0_5.arr _ _ _ _ (Memref.isWhole_whole _) (hstage0_5 0) t j : (win0_5.blk t).view.emb j = j)).trans (V_main_arg4 m c)

/-- The block of the second moments' scales is the argument. -/
theorem blk6 (c : Dev nD) (t : Fin cfg0.N) : iblk m c 6 t = m ((c : Thread nD τ).loc main_arg5) :=
  (funext fun j => congrArg (V m c main_arg5) (whole_emb win0_6.arr _ _ _ _ (Memref.isWhole_whole _) (hstage0_6 0) t j : (win0_6.blk t).view.emb j = j)).trans (V_main_arg5 m c)

/-- The block of the step count is the argument. -/
theorem blk0 (c : Dev nD) (t : Fin cfg0.N) (h : 0 < S1.numel) :
    iblk m c 0 t (Shape.Idx.first (s := S1) h) = m ((c : Thread nD τ).loc main_arg6) ix0 := by
  refine Eq.trans ?_ (steps m c)
  refine (congrArg (V m c main_v0) (whole_emb win0_0.arr _ _ _ _ (Memref.isWhole_whole _) (hstage0_0 0) t (Shape.Idx.first (s := S1) h) : (win0_0.blk t).view.emb _ = _)).trans ?_
  exact congrArg (V m c main_v0) ((eq_ix1 (n0 := 1) _).trans (congrArg ix1 (Subsingleton.elim (α := Fin 1) _ _)))

/-! ## The arrays after the run -/

/-- The steps. -/
theorem arr7 (c : Dev nD) : (dats m 0 c).arrAt 7 cfg0.N = fun y : S24064x2048.Idx =>
    bD ((m ((c : Thread nD τ).loc main_arg6)) ix0) (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (y 0) (y 1) := by
  have place := fun (t : Fin cfg0.N) (j : S24064x2048.Idx) =>
    (whole_emb win0_7.arr _ _ _ _ (Memref.isWhole_whole _) (hstage0_7 0) t j : (win0_7.blk t).view.emb j = j)
  refine (dats m 0 c).arrAt_eq_of_cover 7 _ (fun t _ => ?_) (fun i => ⟨⟨0, by decide⟩, flush0_7 _, ?_⟩)
  · rw [Value.flushed7_A, out7, blk0, blk1, blk2, blk3, blk4, blk5, blk6, delta_whole]
    funext j
    exact congrArg (fun y : S24064x2048.Idx => bD ((m ((c : Thread nD τ).loc main_arg6)) ix0) (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (y 0) (y 1)) (place t j).symm
  · have h := (win0_7.blk (⟨0, by decide⟩ : Fin cfg0.N)).view.emb_mem_set i
    rwa [place] at h

/-- The codes of the first moments. -/
theorem arr8 (c : Dev nD) : (dats m 0 c).arrAt 8 cfg0.N = fun y : S24064x2048.Idx =>
    bC (y 1) (bM (m ((c : Thread nD τ).loc main_arg1)) (m ((c : Thread nD τ).loc main_arg2)) (m ((c : Thread nD τ).loc main_arg3)) (y 0)) := by
  have place := fun (t : Fin cfg0.N) (j : S24064x2048.Idx) =>
    (whole_emb win0_8.arr _ _ _ _ (Memref.isWhole_whole _) (hstage0_8 0) t j : (win0_8.blk t).view.emb j = j)
  refine (dats m 0 c).arrAt_eq_of_cover 8 _ (fun t _ => ?_) (fun i => ⟨⟨0, by decide⟩, flush0_8 _, ?_⟩)
  · rw [Value.flushed8_A, out8, blk2, blk3, blk4, code1_whole]
    funext j
    exact congrArg (fun y : S24064x2048.Idx => bC (y 1) (bM (m ((c : Thread nD τ).loc main_arg1)) (m ((c : Thread nD τ).loc main_arg2)) (m ((c : Thread nD τ).loc main_arg3)) (y 0))) (place t j).symm
  · have h := (win0_8.blk (⟨0, by decide⟩ : Fin cfg0.N)).view.emb_mem_set i
    rwa [place] at h

/-- The scales of the first moments. -/
theorem arr9 (c : Dev nD) : (dats m 0 c).arrAt 9 cfg0.N = fun y : S24064x16.Idx =>
    bS (y 1) (bM (m ((c : Thread nD τ).loc main_arg1)) (m ((c : Thread nD τ).loc main_arg2)) (m ((c : Thread nD τ).loc main_arg3)) (y 0)) := by
  have place := fun (t : Fin cfg0.N) (j : S24064x16.Idx) =>
    (whole_emb win0_9.arr _ _ _ _ (Memref.isWhole_whole _) (hstage0_9 0) t j : (win0_9.blk t).view.emb j = j)
  refine (dats m 0 c).arrAt_eq_of_cover 9 _ (fun t _ => ?_) (fun i => ⟨⟨0, by decide⟩, flush0_9 _, ?_⟩)
  · rw [Value.flushed9_A, out9, blk2, blk3, blk4, scale1_whole]
    funext j
    exact congrArg (fun y : S24064x16.Idx => bS (y 1) (bM (m ((c : Thread nD τ).loc main_arg1)) (m ((c : Thread nD τ).loc main_arg2)) (m ((c : Thread nD τ).loc main_arg3)) (y 0))) (place t j).symm
  · have h := (win0_9.blk (⟨0, by decide⟩ : Fin cfg0.N)).view.emb_mem_set i
    rwa [place] at h

/-- The codes of the second moments. -/
theorem arr10 (c : Dev nD) : (dats m 0 c).arrAt 10 cfg0.N = fun y : S24064x2048.Idx =>
    bC (y 1) (bV (m ((c : Thread nD τ).loc main_arg1)) (m ((c : Thread nD τ).loc main_arg4)) (m ((c : Thread nD τ).loc main_arg5)) (y 0)) := by
  have place := fun (t : Fin cfg0.N) (j : S24064x2048.Idx) =>
    (whole_emb win0_10.arr _ _ _ _ (Memref.isWhole_whole _) (hstage0_10 0) t j : (win0_10.blk t).view.emb j = j)
  refine (dats m 0 c).arrAt_eq_of_cover 10 _ (fun t _ => ?_) (fun i => ⟨⟨0, by decide⟩, flush0_10 _, ?_⟩)
  · rw [Value.flushed10_A, out10, blk2, blk5, blk6, code2_whole]
    funext j
    exact congrArg (fun y : S24064x2048.Idx => bC (y 1) (bV (m ((c : Thread nD τ).loc main_arg1)) (m ((c : Thread nD τ).loc main_arg4)) (m ((c : Thread nD τ).loc main_arg5)) (y 0))) (place t j).symm
  · have h := (win0_10.blk (⟨0, by decide⟩ : Fin cfg0.N)).view.emb_mem_set i
    rwa [place] at h

/-- The scales of the second moments. -/
theorem arr11 (c : Dev nD) : (dats m 0 c).arrAt 11 cfg0.N = fun y : S24064x16.Idx =>
    bS (y 1) (bV (m ((c : Thread nD τ).loc main_arg1)) (m ((c : Thread nD τ).loc main_arg4)) (m ((c : Thread nD τ).loc main_arg5)) (y 0)) := by
  have place := fun (t : Fin cfg0.N) (j : S24064x16.Idx) =>
    (whole_emb win0_11.arr _ _ _ _ (Memref.isWhole_whole _) (hstage0_11 0) t j : (win0_11.blk t).view.emb j = j)
  refine (dats m 0 c).arrAt_eq_of_cover 11 _ (fun t _ => ?_) (fun i => ⟨⟨0, by decide⟩, flush0_11 _, ?_⟩)
  · rw [Value.flushed11_A, out11, blk2, blk5, blk6, scale2_whole]
    funext j
    exact congrArg (fun y : S24064x16.Idx => bS (y 1) (bV (m ((c : Thread nD τ).loc main_arg1)) (m ((c : Thread nD τ).loc main_arg4)) (m ((c : Thread nD τ).loc main_arg5)) (y 0))) (place t j).symm
  · have h := (win0_11.blk (⟨0, by decide⟩ : Fin cfg0.N)).view.emb_mem_set i
    rwa [place] at h

/-- After every run the five results are these functions of the arguments, and the arguments are as they were. -/
theorem run (ρ : Dev nD → PrngReg) :
    θ_run defs (onTc (τ := τ) (main (F := Ideal))) ⟨m, fun _ => 0, ρ⟩ (fun r => ∀ c : Dev nD,
      r.2.mem ((c : Thread nD τ).loc main_v1_0) = (fun y => bD ((m ((c : Thread nD τ).loc main_arg6)) ix0) (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (y 0) (y 1) : S24064x2048.Idx → EReal)
      ∧ r.2.mem ((c : Thread nD τ).loc main_v1_1) = (fun y => bC (y 1) (bM (m ((c : Thread nD τ).loc main_arg1)) (m ((c : Thread nD τ).loc main_arg2)) (m ((c : Thread nD τ).loc main_arg3)) (y 0)) : S24064x2048.Idx → BitVec 8)
      ∧ r.2.mem ((c : Thread nD τ).loc main_v1_2) = (fun y => bS (y 1) (bM (m ((c : Thread nD τ).loc main_arg1)) (m ((c : Thread nD τ).loc main_arg2)) (m ((c : Thread nD τ).loc main_arg3)) (y 0)) : S24064x16.Idx → EReal)
      ∧ r.2.mem ((c : Thread nD τ).loc main_v1_3) = (fun y => bC (y 1) (bV (m ((c : Thread nD τ).loc main_arg1)) (m ((c : Thread nD τ).loc main_arg4)) (m ((c : Thread nD τ).loc main_arg5)) (y 0)) : S24064x2048.Idx → BitVec 8)
      ∧ r.2.mem ((c : Thread nD τ).loc main_v1_4) = (fun y => bS (y 1) (bV (m ((c : Thread nD τ).loc main_arg1)) (m ((c : Thread nD τ).loc main_arg4)) (m ((c : Thread nD τ).loc main_arg5)) (y 0)) : S24064x16.Idx → EReal)
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4))
      ∧ r.2.mem ((c : Thread nD τ).loc main_arg5) = (m ((c : Thread nD τ).loc main_arg5))
      ∧ r.2.mem ((c : Thread nD τ).loc main_arg6) = (m ((c : Thread nD τ).loc main_arg6))) := by
  refine (θ_run defs _ _).mono (fun r h c => ?_) (Value.run_blocks m ρ)
  obtain ⟨h7, h8, h9, h10, h11, hk⟩ := h c
  exact ⟨h7.trans (arr7 m c), h8.trans (arr8 m c), h9.trans (arr9 m c), h10.trans (arr10 m c), h11.trans (arr11 m c), hk⟩

end Cert.ReferenceIdeal.Val

end
-- ==== Proof.K.Words.lean ====
module

public import proofs.«01_k».proof.Proof.K.Spec
import Mathlib.Tactic.NormNum

/-! The numbers that the programs' f32 words denote. -/

@[expose] public section

noncomputable section

namespace Adam

open Idealize.ShloMosaic

/-- The word of 127. -/
theorem w_127 : w 0x42FE0000#32 = ((127 : ℝ) : EReal) := by
  simp [w, Ideal.ofBits, Ideal.ieee]; norm_num; simp only [← EReal.coe_mul]; norm_num

/-- The word of -127. -/
theorem w_neg127 : w 0xC2FE0000#32 = ((-127 : ℝ) : EReal) := by
  simp [w, Ideal.ofBits, Ideal.ieee]; norm_num; simp only [← EReal.coe_mul]; norm_num

/-- The word of minus infinity. -/
theorem w_bot : w 0xFF800000#32 = ⊥ := by
  simp [w, Ideal.ofBits, Ideal.ieee]

/-- The word of infinity. -/
theorem w_top : w 0x7F800000#32 = ⊤ := by
  simp [w, Ideal.ofBits, Ideal.ieee]

/-- The word of 999. -/
theorem w_999 : w 0x4479C000#32 = ((999 : ℝ) : EReal) := by
  simp [w, Ideal.ofBits, Ideal.ieee]; norm_num; simp only [← EReal.coe_mul]; norm_num

/-- The word of 2. -/
theorem w_2 : w 0x40000000#32 = ((2 : ℝ) : EReal) := by
  simp [w, Ideal.ofBits, Ideal.ieee]; norm_num; simp only [← EReal.coe_mul]; norm_num

/-- The word of 5. -/
theorem w_5 : w 0x40A00000#32 = ((5 : ℝ) : EReal) := by
  simp [w, Ideal.ofBits, Ideal.ieee]; norm_num; simp only [← EReal.coe_mul]; norm_num

/-- The least normal number. -/
def least : ℝ := 2⁻¹ ^ 126

/-- The least normal number is above zero. -/
theorem least_pos : 0 < least := by unfold least; positivity

/-- The word of the least normal number. -/
theorem w_least : w 0x00800000#32 = ((least : ℝ) : EReal) := by
  unfold least; simp [w, Ideal.ofBits, Ideal.ieee]; norm_num; simp only [← EReal.coe_mul]; norm_num

/-- The word of a hundred times the least normal number. -/
theorem w_least100 : w 0x03C80000#32 = ((100 * least : ℝ) : EReal) := by
  unfold least; simp [w, Ideal.ofBits, Ideal.ieee]; norm_num; simp only [← EReal.coe_mul]; norm_num

/-- The guard of the step's denominator is a number above zero. -/
theorem w_guard : ∃ r : ℝ, 0 < r ∧ w 0x322BCC77#32 = (r : EReal) := by
  refine ⟨11258999 * 2⁻¹ ^ 50, by positivity, ?_⟩
  simp [w, Ideal.ofBits, Ideal.ieee]

/-- The learning rate with its sign, as a number. -/
theorem w_rate : w 0xBA83126F#32 = ((-(8589935 / 2 ^ 33) : ℝ) : EReal) := by
  simp [w, Ideal.ofBits, Ideal.ieee]; norm_num; simp only [← EReal.coe_mul, ← EReal.coe_neg]; norm_num

end Adam

end
-- ==== Proof.K.Quantise.lean ====
module

public import proofs.«01_k».proof.Proof.K.Words
import Mathlib.Tactic.NormNum
import Mathlib.Tactic.Linarith
import Mathlib.Tactic.FieldSimp
import Mathlib.Tactic.Ring

/-! The two quantisers are one: multiplying by a reciprocal and clipping before rounding, and dividing and clipping after
rounding, give the same codes; and a block ten times as large gives the same codes, by a scale ten times as large. -/

@[expose] public section

noncomputable section

namespace Adam

open Idealize.ShloMosaic

/-! ## Division -/

/-- Division is multiplication by the reciprocal, off zero. -/
theorem div_eq_mul {s : EReal} (h : s ≠ 0) (x : EReal) : Ideal.div x s = x * Ideal.div 1 s := by
  unfold Ideal.div; rw [if_neg h, if_neg h, one_mul]

/-- The reciprocal of a nonzero number. -/
theorem recip_coe {r : ℝ} (h : r ≠ 0) : Ideal.div 1 (r : EReal) = ((r⁻¹ : ℝ) : EReal) := by
  unfold Ideal.div
  rw [if_neg (by exact_mod_cast h), one_mul, EReal.coe_inv]

/-- A scale is never zero. -/
theorem scale_ne_zero (a : EReal) : scale a ≠ 0 := by
  unfold scale
  split
  · exact one_ne_zero
  · rename_i h
    rw [w_127, div_eq_mul (by norm_num), recip_coe (by norm_num)]
    intro k
    rcases mul_eq_zero.mp k with k | k
    · exact h k
    · norm_num at k

/-! ## Rounding and clipping -/

/-- Rounding keeps the order. -/
theorem round_mono : Monotone Ideal.roundHalfEven := by
  intro x y h
  unfold Ideal.roundHalfEven
  have fm : ⌊x⌋ ≤ ⌊y⌋ := Int.floor_mono h
  have hx := Int.floor_le x; have hx' := Int.lt_floor_add_one x
  have hy := Int.floor_le y; have hy' := Int.lt_floor_add_one y
  rcases fm.lt_or_eq with lt | eq
  · dsimp only; split_ifs <;> omega
  · dsimp only
    rw [eq] at hx hx' ⊢
    split_ifs <;> first | omega | (exfalso; linarith)

/-- A whole number is its own rounding. -/
theorem round_int (n : ℤ) : Ideal.roundHalfEven (n : ℝ) = n := by
  unfold Ideal.roundHalfEven
  simp

/-- Rounding keeps the order of the extended numbers. -/
theorem lift_mono : Monotone (Ideal.liftRound Ideal.roundHalfEven) := by
  intro x y h
  induction x with
  | bot => exact bot_le
  | top => rw [top_le_iff.mp h]
  | coe x =>
    induction y with
    | bot => exact absurd h (by simp)
    | top => exact le_top
    | coe y =>
      show (((Ideal.roundHalfEven x : ℤ) : ℝ) : EReal) ≤ (((Ideal.roundHalfEven y : ℤ) : ℝ) : EReal)
      have := round_mono (EReal.coe_le_coe_iff.mp h)
      exact_mod_cast this

/-- A clipped value, rounded, is the rounded value, clipped. -/
theorem round_clip (x : EReal) :
    Ideal.liftRound Ideal.roundHalfEven (min (w 0x42FE0000#32) (max (w 0xC2FE0000#32) x))
      = min (w 0x42FE0000#32) (max (w 0xC2FE0000#32) (Ideal.liftRound Ideal.roundHalfEven x)) := by
  rw [lift_mono.map_min, lift_mono.map_max, w_127, w_neg127]
  have a : Ideal.liftRound Ideal.roundHalfEven ((127 : ℝ) : EReal) = ((127 : ℝ) : EReal) := by
    show (((Ideal.roundHalfEven (127 : ℝ) : ℤ) : ℝ) : EReal) = _
    have := round_int 127; push_cast at this; rw [this]; norm_num
  have b : Ideal.liftRound Ideal.roundHalfEven ((-127 : ℝ) : EReal) = ((-127 : ℝ) : EReal) := by
    show (((Ideal.roundHalfEven (-127 : ℝ) : ℤ) : ℝ) : EReal) = _
    have := round_int (-127); push_cast at this; rw [this]; norm_num
  rw [a, b]

/-- A clipped value is a number within the clip. -/
theorem clip_coe (x : EReal) : ∃ r : ℝ, -127 ≤ r ∧ r ≤ 127 ∧ min (w 0x42FE0000#32) (max (w 0xC2FE0000#32) x) = (r : EReal) := by
  rw [w_127, w_neg127]
  have lo : ((-127 : ℝ) : EReal) ≤ min ((127 : ℝ) : EReal) (max ((-127 : ℝ) : EReal) x) :=
    le_min (EReal.coe_le_coe_iff.mpr (by norm_num)) (le_max_left _ _)
  have hi : min ((127 : ℝ) : EReal) (max ((-127 : ℝ) : EReal) x) ≤ ((127 : ℝ) : EReal) := min_le_left _ _
  generalize min ((127 : ℝ) : EReal) (max ((-127 : ℝ) : EReal) x) = y at lo hi ⊢
  induction y with
  | bot => exact absurd lo (by simp)
  | top => exact absurd hi (by simp)
  | coe r => exact ⟨r, EReal.coe_le_coe_iff.mp lo, EReal.coe_le_coe_iff.mp hi, rfl⟩

/-- A clipped value as an integer of 32 bits, cut to eight, is it as an integer of eight. -/
theorem narrow (x : EReal) :
    (Ideal.fptosi 32 (min (w 0x42FE0000#32) (max (w 0xC2FE0000#32) x))).truncate 8
      = Ideal.fptosi 8 (min (w 0x42FE0000#32) (max (w 0xC2FE0000#32) x)) := by
  obtain ⟨r, lo, hi, e⟩ := clip_coe x
  rw [e]
  unfold Ideal.fptosi
  show (BitVec.ofInt 32 (max _ (min _ (if 0 ≤ r then ⌊r⌋ else ⌈r⌉)))).truncate 8
    = BitVec.ofInt 8 (max _ (min _ (if 0 ≤ r then ⌊r⌋ else ⌈r⌉)))
  have bounds : -127 ≤ (if 0 ≤ r then ⌊r⌋ else ⌈r⌉) ∧ (if 0 ≤ r then ⌊r⌋ else ⌈r⌉) ≤ 127 := by
    split
    · exact ⟨Int.le_floor.mpr (by push_cast; exact lo), by have := Int.floor_mono hi; simpa using this⟩
    · exact ⟨by
        have : ((-127 : ℤ) : ℝ) ≤ r := by push_cast; exact lo
        exact_mod_cast this.trans (Int.le_ceil r), Int.ceil_le.mpr (by push_cast; exact hi)⟩
  generalize (if 0 ≤ r then ⌊r⌋ else ⌈r⌉) = n at bounds
  obtain ⟨h1, h2⟩ := bounds
  have e1 : max (-((2 ^ (32 - 1) : ℕ) : ℤ)) (min (((2 ^ (32 - 1) : ℕ) : ℤ) - 1) n) = n := by norm_num; omega
  have e2 : max (-((2 ^ (8 - 1) : ℕ) : ℤ)) (min (((2 ^ (8 - 1) : ℕ) : ℤ) - 1) n) = n := by norm_num; omega
  rw [e1, e2]
  apply BitVec.eq_of_toNat_eq
  simp only [BitVec.truncate_eq_setWidth, BitVec.toNat_setWidth, BitVec.toNat_ofInt]
  omega

/-- The two codes of an element by one scale. -/
theorem code_eq {x s : EReal} (h : s ≠ 0) : kCode x s = rCode x s := by
  unfold kCode rCode
  rw [round_clip, narrow, div_eq_mul h x]

/-! ## A block ten times as large -/

/-- Ten. -/
abbrev ten : EReal := ((10 : ℝ) : EReal)

/-- Ten tenths of a value are the value. -/
theorem ten_tenth (a : EReal) : ten * a * tenth = a := by
  rw [mul_right_comm, ← EReal.coe_mul]
  norm_num

/-- The largest magnitude of a block ten times as large is ten times as large. -/
theorem peak_ten (f : Fin 128 → EReal) : peak (fun j => ten * f j) = ten * peak f := by
  have mono : Monotone fun a : EReal => ten * a := fun a b h => mul_le_mul_of_nonneg_left h (by norm_num)
  have fold := Finset.fold_hom (op := max) (op' := max) (m := fun a : EReal => ten * a) (b := w 0xFF800000#32)
    (s := (Finset.univ : Finset (Fin 128))) (f := fun j => max (f j) (-f j)) (fun x y => mono.map_max)
  unfold peak
  refine Eq.trans ?_ fold
  have bot : ten * w 0xFF800000#32 = w 0xFF800000#32 := by
    rw [w_bot]; exact EReal.coe_mul_bot_of_pos (by norm_num)
  dsimp only
  rw [bot]
  refine Finset.fold_congr fun j _ => ?_
  rw [mono.map_max, mul_neg]

/-- A tenth of the largest magnitude of a block ten times as large is the block's. -/
theorem scale_ten (f : Fin 128 → EReal) : scale (peak (fun j => ten * f j) * tenth) = scale (peak f) := by
  rw [peak_ten, ten_tenth]

/-- No element's magnitude is above the largest. -/
theorem le_peak (f : Fin 128 → EReal) (j : Fin 128) : max (f j) (-f j) ≤ peak f := by
  unfold peak
  exact (Finset.le_fold_max _).mpr (Or.inr ⟨j, Finset.mem_univ _, le_rfl⟩)

/-- A block whose largest magnitude is zero is zero. -/
theorem zero_of_peak {f : Fin 128 → EReal} (h : peak f = 0) (j : Fin 128) : f j = 0 := by
  have k := le_peak f j
  rw [h] at k
  by_contra n
  exact absurd ((Ideal.zero_lt_max_neg_iff (f j)).mpr n) (not_lt.mpr k)

/-- The codes of a block ten times as large, by its own scale, are the block's. -/
theorem code_ten (f : Fin 128 → EReal) (j : Fin 128) :
    kCode (ten * f j) (scale (peak fun j => ten * f j)) = rCode (f j) (scale (peak f)) := by
  rw [← code_eq (scale_ne_zero _)]
  suffices h : ten * f j * Ideal.div 1 (scale (peak fun j => ten * f j)) = f j * Ideal.div 1 (scale (peak f)) by
    unfold kCode; rw [h]
  rw [peak_ten]
  by_cases h : peak f = 0
  · rw [zero_of_peak h j]; simp
  · have h' : ten * peak f ≠ 0 := by
      intro k
      rcases mul_eq_zero.mp k with k | k
      · norm_num at k
      · exact h k
    unfold scale
    rw [if_neg h, if_neg h', w_127, div_eq_mul (by norm_num) (peak f), div_eq_mul (by norm_num) (ten * peak f),
      recip_coe (by norm_num)]
    generalize peak f = a at h
    induction a with
    | bot => simp [Ideal.div, EReal.coe_mul_bot_of_pos, EReal.bot_mul_coe_of_pos]
    | top => simp [Ideal.div, EReal.coe_mul_top_of_pos, EReal.top_mul_coe_of_pos]
    | coe a =>
      have ha : a ≠ 0 := by exact_mod_cast h
      rw [← EReal.coe_mul, ← EReal.coe_mul, ← EReal.coe_mul, recip_coe (by positivity), recip_coe (by positivity), mul_comm ten,
        mul_assoc, ← EReal.coe_mul]
      congr 2
      field_simp

end Adam

end
-- ==== Proof.K.Step.lean ====
module

public import proofs.«01_k».proof.Proof.K.Quantise
import Mathlib.Tactic.Positivity

/-! The moments and the step: the kernel's spelling and the textbook's are one function. -/

@[expose] public section

noncomputable section

namespace Adam

open Idealize.ShloMosaic

/-! ## The moments -/

/-- The first moment. -/
theorem moment1_eq (c : BitVec 8) (s g : EReal) : kM c (s * ((9 / 10 : ℝ) : EReal)) g = rM c s g := by
  unfold kM rM
  rw [mul_comm g, ← mul_assoc, mul_comm (num c * s)]

/-- A number that is not below zero goes into a sum. -/
theorem into_sum {r : ℝ} (h : 0 ≤ r) (x y : EReal) : (r : EReal) * (x + y) = r * x + r * y :=
  EReal.left_distrib_of_nonneg_of_ne_top (by exact_mod_cast h) (EReal.coe_ne_top r) x y

/-- A thousand times an element's new second moment. -/
def thousand (d : BitVec 8) (r g : EReal) : EReal := ((999 : ℝ) : EReal) * (num d * r) + g * g

/-- The second moment is a thousandth of it. -/
theorem thousandth (d : BitVec 8) (r g : EReal) : rV d r g = ((1 / 1000 : ℝ) : EReal) * thousand d r g := by
  unfold rV thousand
  rw [into_sum (by norm_num), ← mul_assoc (((1 / 1000 : ℝ) : EReal)) (((999 : ℝ) : EReal)), ← EReal.coe_mul]
  norm_num

/-- The kernel's second moment is ten times the textbook's. -/
theorem moment2_eq (d : BitVec 8) (r g : EReal) : kV d (r * ((999 / 100 : ℝ) : EReal)) g = ten * rV d r g := by
  unfold kV rV
  rw [into_sum (by norm_num), ← mul_assoc ten, ← mul_assoc ten, ← EReal.coe_mul, ← EReal.coe_mul, mul_mul_mul_comm g,
    ← EReal.coe_mul, mul_comm (g * g), ← mul_assoc (num d), mul_comm (num d * r)]
  norm_num

/-! ## What depends on the step count alone -/

/-- The kernel's `β ^ t`, by the logarithm. -/
theorem power {β : ℝ} (h : 0 < β) (T : BitVec 32) :
    Ideal.exp (num T * ((Real.log β : ℝ) : EReal)) = ((Real.rpow β (T.toInt : ℝ) : ℝ) : EReal) := by
  rw [← EReal.coe_mul]
  show ((Real.exp _ : ℝ) : EReal) = _
  rw [mul_comm]
  exact congrArg _ (Real.rpow_def_of_pos h _).symm

/-- The textbook's bias correction. -/
theorem bias_coe (β : ℝ) (T : BitVec 32) : rBias β T = ((1 - Real.rpow β (T.toInt : ℝ) : ℝ) : EReal) := by
  unfold rBias
  have one : (1#32 : BitVec 32).toInt = 1 := by decide
  show ((((1#32 : BitVec 32).toInt : ℝ)) : EReal) - ((Real.rpow β (T.toInt : ℝ) : ℝ) : EReal) = _
  rw [one, ← EReal.coe_sub]
  norm_num

/-- From the first step on it is above zero. -/
theorem bias_pos {β : ℝ} (h0 : 0 < β) (h1 : β < 1) {T : BitVec 32} (h : 1 ≤ T.toInt) : 0 < 1 - Real.rpow β (T.toInt : ℝ) := by
  have t : (0 : ℝ) < (T.toInt : ℝ) := by exact_mod_cast (by omega : 0 < T.toInt)
  exact sub_pos.mpr (Real.rpow_lt_one h0.le h1 t)

/-- The square root of ten times the second correction, as the kernel computes it: by five, then by two. -/
def kRoot (T : BitVec 32) : EReal :=
  Ideal.sqrt (w 0x40000000#32 * (w 0x40A00000#32 * (1 - Ideal.exp (num T * ((Real.log (999 / 1000) : ℝ) : EReal)))))

/-- The kernel's factor of the first moment. -/
def kFirst (T : BitVec 32) : EReal :=
  Ideal.div (w 0xBA83126F#32 * kRoot T) (1 - Ideal.exp (num T * ((Real.log (9 / 10) : ℝ) : EReal)))

/-- The kernel's guard. -/
def kGuard (T : BitVec 32) : EReal := w 0x322BCC77#32 * kRoot T

/-- The square root of a number. -/
theorem sqrt_nonneg {r : ℝ} (h : 0 ≤ r) : Ideal.sqrt (r : EReal) = ((Real.sqrt r : ℝ) : EReal) := by
  show (if r < 0 then _ else _) = _
  rw [if_neg (not_lt.mpr h)]

/-- The root is that of ten times the correction. -/
theorem root_coe {T : BitVec 32} (h : 1 ≤ T.toInt) :
    kRoot T = ((Real.sqrt (10 * (1 - Real.rpow (999 / 1000) (T.toInt : ℝ))) : ℝ) : EReal) := by
  have c := bias_pos (β := 999 / 1000) (by norm_num) (by norm_num) h
  unfold kRoot
  rw [power (by norm_num), w_2, w_5, ← EReal.coe_one, ← EReal.coe_sub, ← EReal.coe_mul, ← EReal.coe_mul,
    sqrt_nonneg (by positivity)]
  congr 2
  ring

/-! ## The step -/

/-- A number over its root, the root not that of less than the least normal number, is its root. -/
theorem root_of {V : ℝ} (h : V = 0 ∨ least ≤ V) :
    (V : EReal) * Ideal.rsqrt (max (V : EReal) (w 0x00800000#32)) = ((Real.sqrt V : ℝ) : EReal) := by
  have lp := least_pos
  rw [w_least]
  rcases h with rfl | h
  · simp
  · have vp : 0 < V := lt_of_lt_of_le lp h
    rw [max_eq_left (EReal.coe_le_coe_iff.mpr h)]
    show (V : EReal) * (if V < 0 then _ else if V = 0 then _ else _) = _
    rw [if_neg (not_lt.mpr vp.le), if_neg vp.ne', ← EReal.coe_mul]
    congr 1
    rw [← div_eq_mul_inv, Real.div_sqrt]

/-- Division by a number, off zero. -/
theorem div_coe (x : EReal) {r : ℝ} (h : r ≠ 0) : Ideal.div x (r : EReal) = x * ((r⁻¹ : ℝ) : EReal) := by
  rw [div_eq_mul (by exact_mod_cast h), recip_coe h]

/-- The learning rate times a step and its decay, the parameter a number, is the two products' sum. -/
theorem decayed (x : EReal) (p : ℝ) :
    w 0xBA83126F#32 * (x + decay * (p : EReal)) = w 0xBA83126F#32 * x + ((-1 / 100000 : ℝ) : EReal) * (p : EReal) := by
  have e : (-(8589935 / 2 ^ 33) : ℝ) * (268435456 / 26843546875 * p) = -1 / 100000 * p := by ring
  rw [w_rate, ← EReal.coe_mul, ← EReal.coe_mul, ← e]
  generalize (268435456 / 26843546875 * p : ℝ) = d
  have n : (-(8589935 / 2 ^ 33) : ℝ) < 0 := by norm_num
  generalize (-(8589935 / 2 ^ 33) : ℝ) = r at n
  induction x with
  | bot => rw [EReal.bot_add, EReal.coe_mul_bot_of_neg n, EReal.top_add_coe]
  | top => rw [EReal.top_add_coe, EReal.coe_mul_top_of_neg n, EReal.bot_add]
  | coe x => rw [← EReal.coe_add, ← EReal.coe_mul, ← EReal.coe_mul, ← EReal.coe_add, mul_add]

/-- The step. -/
theorem delta_eq {T : BitVec 32} (ht : 1 ≤ T.toInt) {x : ℝ} (hx : x = 0 ∨ least ≤ x) (m : EReal) (p : ℝ) :
    kDelta (kFirst T) (kGuard T) m (x : EReal) p
      = rDelta (rBias (9 / 10) T) (rBias (999 / 1000) T) m ((x / 10 : ℝ) : EReal) p := by
  have c1 := bias_pos (β := 9 / 10) (by norm_num) (by norm_num) ht
  have c2 := bias_pos (β := 999 / 1000) (by norm_num) (by norm_num) ht
  have x0 : 0 ≤ x := by
    rcases hx with rfl | h
    · exact le_rfl
    · exact least_pos.le.trans h
  obtain ⟨ε, ep, hε⟩ := w_guard
  unfold kDelta rDelta kFirst kGuard
  rw [decayed, root_of hx, root_coe ht, power (by norm_num), bias_coe, bias_coe, hε, w_rate, ← EReal.coe_one, ← EReal.coe_sub]
  generalize 1 - Real.rpow (9 / 10) (T.toInt : ℝ) = b1 at c1
  generalize 1 - Real.rpow (999 / 1000) (T.toInt : ℝ) = b2 at c2
  have r0 : 0 < Real.sqrt (10 * b2) := Real.sqrt_pos.mpr (by positivity)
  have s0 : 0 ≤ Real.sqrt x := Real.sqrt_nonneg x
  have e : Real.sqrt (x / 10 * b2⁻¹) = Real.sqrt x / Real.sqrt (10 * b2) := by
    rw [← Real.sqrt_div x0]
    congr 1
    field_simp
  rw [div_coe _ c1.ne', div_coe _ c1.ne', div_coe _ c2.ne', ← EReal.coe_mul (x / 10), sqrt_nonneg (by positivity), e]
  generalize Real.sqrt x = u at s0
  generalize Real.sqrt (10 * b2) = r at r0
  rw [← EReal.coe_mul, ← EReal.coe_mul, ← EReal.coe_mul, ← EReal.coe_add, ← EReal.coe_add, EReal.coe_one,
    recip_coe (by positivity), div_coe _ (by positivity), mul_assoc m, mul_assoc m, ← EReal.coe_mul, ← EReal.coe_mul,
    mul_left_comm, ← EReal.coe_mul]
  congr 3
  field_simp

end Adam

end
-- ==== Proof.K.Mask.lean ====
module

public import proofs.«01_k».proof.Proof.K.Step
public import proofs.«01_k».proof.Proof.Gen.On_where_normal
public import Idealize.ShloMosaic.Lib.Pointwise

/-! What the mask on the steps says of an element. -/

@[expose] public section

noncomputable section

namespace Cert.On_where_normal.Val

open Idealize.ShloMosaic Cert.On_where_normal Adam

/-- The bit of "zero, or between two bounds; the count at least one; and a magnitude bounded" says what it reads. -/
theorem bit {X lo hi A : EReal} {T : BitVec 32}
    (h : IntOp.andi (IntOp.andi (IntOp.ori (BitVec.ofBool (decide (X = 0)))
      (IntOp.andi (BitVec.ofBool (decide (lo ≤ X))) (BitVec.ofBool (decide (X < hi))))) (IntOp.cmpi CmpIPredicate.sge T 1#32))
      (BitVec.ofBool (decide (A < hi))) = 1#1) :
    ((X = 0 ∨ lo ≤ X ∧ X < hi) ∧ 1 ≤ T.toInt) ∧ A < hi := by
  have split : ∀ a b c d e : Bool, IntOp.andi (IntOp.andi (IntOp.ori (BitVec.ofBool a) (IntOp.andi (BitVec.ofBool b) (BitVec.ofBool c))) (BitVec.ofBool d))
      (BitVec.ofBool e) = 1#1 → ((a = true ∨ b = true ∧ c = true) ∧ d = true) ∧ e = true := by decide
  have k := split _ _ _ (BitVec.sle 1#32 T) _ h
  have one : (1#32 : BitVec 32).toInt = 1 := by decide
  simpa only [decide_eq_true_eq, BitVec.sle, one] using k

/-- A code read as a wider integer is the same number. -/
theorem wider (d : BitVec 8) : FloatOps.sitofp (F := Ideal) FTy.f32 (BitVec.signExtend 32 d) = num d := by
  show (((BitVec.signExtend 32 d).toInt : ℝ) : EReal) = _
  rw [BitVec.toInt_signExtend_of_le (by decide)]

/-- What has a magnitude below infinity is a number. -/
theorem finite {x : EReal} (h : max x (-x) < ⊤) : ∃ r : ℝ, x = (r : EReal) := by
  induction x with
  | bot => exact absurd h (by simp)
  | top => exact absurd h (by simp)
  | coe r => exact ⟨r, rfl⟩

/-- Where the mask is set, the new second moment is zero or a number no less than the least normal one over ten, the count
of steps is at least one, and the parameter is a number. -/
theorem mask [Cert.On_where_normal.Facts] (P : FVec Ideal S24064x2048 .f32) (G : FVec Ideal S24064x2048 .bf16) (C : IVec S24064x2048 8)
    (S : FVec Ideal S24064x16 .f32) (D : IVec S24064x2048 8) (R : FVec Ideal S24064x16 .f32) (T : IVec S_ 32) (q : Fin 24064) (p : Fin 2048)
    (h : (fn (F := Ideal) P G C S D R T).1 (ix2 q p) = 1#1) :
    (thousand (D (ix2 q p)) (R (ix2 q (blockOf p))) (G (ix2 q p)) = 0
      ∨ ((100 * least : ℝ) : EReal) ≤ thousand (D (ix2 q p)) (R (ix2 q (blockOf p))) (G (ix2 q p))
        ∧ thousand (D (ix2 q p)) (R (ix2 q (blockOf p))) (G (ix2 q p)) < ⊤)
      ∧ 1 ≤ (T ix0).toInt ∧ ∃ r : ℝ, P (ix2 q p) = (r : EReal) := by
  unfold fn fn_part1 at h
  dsimp only at h
  simp only [pointwise] at h
  rw [wider] at h
  have k := bit (A := max (P (ix2 q p)) (-P (ix2 q p))) (X := w 0x4479C000#32 * (num (D (ix2 q p)) * R (ix2 q (blockOf p))) + G (ix2 q p) * G (ix2 q p)) h
  unfold thousand
  rw [← w_999, ← w_least100, ← w_top]
  exact ⟨k.1.1, k.1.2, finite (k.2.trans_eq w_top)⟩

end Cert.On_where_normal.Val

end
-- ==== Proof.K.Equal.lean ====
module

public import proofs.«01_k».proof.Proof.K.Array
public import proofs.«01_k».proof.Proof.K.ReferenceRun
public import proofs.«01_k».proof.Proof.K.Mask

/-! The equation: the kernel's five results are the reference's, element by element. -/

@[expose] public section

noncomputable section

namespace Cert.Equal

open Idealize.ShloMosaic Adam Cert.KernelIdeal.Val Cert.ReferenceIdeal.Val Cert.On_where_normal.Val

variable (T : (⟨0, ![]⟩ : Shape).Idx → BitVec 32) (P : FVec Ideal ⟨2, ![24064, 2048]⟩ .f32) (G : FVec Ideal ⟨2, ![24064, 2048]⟩ .bf16)
  (C D : IVec ⟨2, ![24064, 2048]⟩ 8) (S R : FVec Ideal ⟨2, ![24064, 16]⟩ .f32) (q : Fin 24064) (p : Fin 2048) (b : Fin 16)

/-! ## The moments -/

/-- The first moments are equal. -/
theorem moment1 : aM G C S q p = bM G C S q p := moment1_eq _ _ _

/-- The kernel's second moment is ten times the reference's. -/
theorem moment2 : aV G D R q p = ten * bV G D R q p := moment2_eq _ _ _

/-! ## The quantised moments -/

/-- The scales of the first moments are equal. -/
theorem scale1 : aSM G C S q b = bS b (bM G C S q) := by
  unfold aSM bS
  simp only [moment1]

/-- The codes of the first moments are equal. -/
theorem code1 : aCM G C S q p = bC p (bM G C S q) := by
  unfold aCM bC
  rw [moment1, scale1]
  exact code_eq (scale_ne_zero _)

/-- The scales of the second moments are equal. -/
theorem scale2 : aSV G D R q b = bS b (bV G D R q) := by
  unfold aSV bS
  simp only [moment2]
  exact scale_ten _

/-- The codes of the second moments are equal. -/
theorem code2 : aCV G D R q p = bC p (bV G D R q) := by
  unfold aCV bC bS
  simp only [moment2]
  have k := code_ten (fun j => bV G D R q (cell (blockOf p) j)) (laneOf p)
  simp only [cell_of] at k
  exact k

/-! ## The steps -/

/-- The kernel's factor of the first moment, in any lane. -/
theorem first_apply (t : BitVec 32) (j : Fin 128) : Cert.KernelIdeal.Gen.k0_pay190 (F := Ideal) t (ix2 0 j) = kFirst t := by
  simp only [Cert.KernelIdeal.Gen.k0_pay190, Cert.KernelIdeal.Gen.k0_pay189, Cert.KernelIdeal.Gen.k0_pay188, pointwise]
  unfold kFirst kRoot
  rfl

/-- The kernel's guard, in any lane. -/
theorem guard_apply (t : BitVec 32) (j : Fin 128) : Cert.KernelIdeal.Gen.k0_pay191 (F := Ideal) t (ix2 0 j) = kGuard t := by
  simp only [Cert.KernelIdeal.Gen.k0_pay191, Cert.KernelIdeal.Gen.k0_pay189, Cert.KernelIdeal.Gen.k0_pay188, pointwise]
  unfold kGuard kRoot
  rfl

/-- Under the mask the kernel's second moment is a number, zero or at least the least normal one. -/
theorem normal {X : EReal} (h : X = 0 ∨ ((100 * least : ℝ) : EReal) ≤ X ∧ X < ⊤) :
    ∃ x : ℝ, (x = 0 ∨ least ≤ x) ∧ ten * (((1 / 1000 : ℝ) : EReal) * X) = (x : EReal)
      ∧ ((1 / 1000 : ℝ) : EReal) * X = ((x / 10 : ℝ) : EReal) := by
  rcases h with rfl | ⟨lo, hi⟩
  · exact ⟨0, .inl rfl, by simp, by simp⟩
  · induction X with
    | bot => exact absurd lo (not_le.mpr (EReal.bot_lt_coe _))
    | top => exact absurd hi (by simp)
    | coe r =>
      have h := EReal.coe_le_coe_iff.mp lo
      refine ⟨r / 100, .inr (by linarith), ?_, ?_⟩
      · rw [← EReal.coe_mul, ← EReal.coe_mul]; congr 1; ring
      · rw [← EReal.coe_mul]; congr 1; ring

/-- The steps are equal under the mask. -/
theorem delta [Cert.On_where_normal.Facts] (h : (Cert.On_where_normal.fn (F := Ideal) P G C S D R T).1 (ix2 q p) = 1#1) :
    aD (T ix0) P G C D S R q p = bD (T ix0) P G C D S R q p := by
  obtain ⟨hx, ht, r, hp⟩ := mask P G C S D R T q p h
  obtain ⟨x, h0, h1, h2⟩ := normal hx
  unfold aD bD
  rw [moment1, moment2, first_apply, guard_apply, hp]
  unfold bV
  rw [thousandth, h1, h2]
  exact delta_eq ht h0 _ _

end Cert.Equal

end
-- ==== Proof.lean ====
module

public import proofs.«01_k».proof.Defs
public import proofs.«01_k».proof.Proof.Gen.ReferenceIdeal.Value
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.On_where_normal
public import proofs.«01_k».proof.Proof.K.Equal
public import Idealize.ShloMosaic.Adequacy
public import Idealize.ShloMosaic.Init

@[expose] public section

noncomputable section

namespace Cert.Proof

open Idealize.ShloMosaic Idealize.SL.Sem Cert.Kernel

/-- Each constant named in the kernel is, in its own precision, the word the kernel writes. -/
theorem preserves : Cert.preserves_Kernel_KernelIdeal :=
  ⟨IdealRules.named_const.statement Cert.KernelIdeal.κ "log_beta1" .f32 0xBDD7C741#32 ((Real.log (9 / 10) : ℝ) : EReal) rfl,
    IdealRules.named_const.statement Cert.KernelIdeal.κ "log_beta2" .f32 0xBA832338#32 ((Real.log (999 / 1000) : ℝ) : EReal) rfl,
    IdealRules.named_const.statement Cert.KernelIdeal.κ "beta1" .f32 0x3F666666#32 ((9 / 10 : ℝ) : EReal) rfl,
    IdealRules.named_const.statement Cert.KernelIdeal.κ "beta2_gain" .f32 0x411FD70A#32 ((999 / 100 : ℝ) : EReal) rfl,
    IdealRules.named_const.statement Cert.KernelIdeal.κ "one_tenth" .f32 0x3DCCCCCD#32 ((1 / 10 : ℝ) : EReal) rfl,
    IdealRules.named_const.statement Cert.KernelIdeal.κ "neg_lr_wd" .f32 0xB727C5AC#32 ((-1 / 100000 : ℝ) : EReal) rfl⟩

/-- The kernel and the reference end with equal results, the steps where the mask is set. -/
theorem algebraic : Cert.algebraic_KernelIdeal_ReferenceIdeal_on_where_normal (hKernelIdeal := Cert.KernelIdeal.Gen.facts)
    (hReferenceIdeal := Cert.ReferenceIdeal.Gen.facts) (hOn_where_normal := Cert.On_where_normal.Gen.facts) := by
  intro m g m' g' _ agree
  let A (c : Dev Cert.KernelIdeal.nD) := fun ref => m ((c.tc : Thread Cert.KernelIdeal.nD Cert.KernelIdeal.τ).loc ref)
  refine ⟨
    fun c y => Cert.KernelIdeal.Val.aD (A c Cert.KernelIdeal.main_arg6 ix0) (A c Cert.KernelIdeal.main_arg0) (A c Cert.KernelIdeal.main_arg1) (A c Cert.KernelIdeal.main_arg2) (A c Cert.KernelIdeal.main_arg4) (A c Cert.KernelIdeal.main_arg3) (A c Cert.KernelIdeal.main_arg5) (y 0) (y 1),
    fun c y => Cert.KernelIdeal.Val.aCM (A c Cert.KernelIdeal.main_arg1) (A c Cert.KernelIdeal.main_arg2) (A c Cert.KernelIdeal.main_arg3) (y 0) (y 1),
    fun c y => Cert.KernelIdeal.Val.aSM (A c Cert.KernelIdeal.main_arg1) (A c Cert.KernelIdeal.main_arg2) (A c Cert.KernelIdeal.main_arg3) (y 0) (y 1),
    fun c y => Cert.KernelIdeal.Val.aCV (A c Cert.KernelIdeal.main_arg1) (A c Cert.KernelIdeal.main_arg4) (A c Cert.KernelIdeal.main_arg5) (y 0) (y 1),
    fun c y => Cert.KernelIdeal.Val.aSV (A c Cert.KernelIdeal.main_arg1) (A c Cert.KernelIdeal.main_arg4) (A c Cert.KernelIdeal.main_arg5) (y 0) (y 1),
    (θ_run _ _ _).mono (fun r h c => ?_) (Cert.KernelIdeal.Val.run m g),
    (θ_run _ _ _).mono (fun r h c => ?_) (Cert.ReferenceIdeal.Val.run m' g')⟩
  · obtain ⟨⟨h0, h1, h2, h3, h4⟩, kept⟩ := h c
    exact ⟨fun i _ => congrFun h0 i, fun i _ => congrFun h1 i, fun i _ => congrFun h2 i, fun i _ => congrFun h3 i,
      fun i _ => congrFun h4 i, kept⟩
  · obtain ⟨h0, h1, h2, h3, h4, kept⟩ := h c
    obtain ⟨a0, a1, a2, a3, a4, a5, a6⟩ := agree c
    erw [a0, a1, a2, a3, a4, a5, a6] at h0
    erw [a1, a2, a3] at h1 h2
    erw [a1, a4, a5] at h3 h4
    refine ⟨fun i on => ?_, fun i _ => ?_, fun i _ => ?_, fun i _ => ?_, fun i _ => ?_, kept⟩
    · refine (congrFun h0 i).trans (Cert.Equal.delta _ _ _ _ _ _ _ (i 0) (i 1) ?_).symm
      exact (congrArg _ (eq_ix2 i).symm).trans on
    · exact (congrFun h1 i).trans (Cert.Equal.code1 _ _ _ (i 0) (i 1)).symm
    · exact (congrFun h2 i).trans (Cert.Equal.scale1 _ _ _ (i 0) (i 1)).symm
    · exact (congrFun h3 i).trans (Cert.Equal.code2 _ _ _ (i 0) (i 1)).symm
    · exact (congrFun h4 i).trans (Cert.Equal.scale2 _ _ _ (i 0) (i 1)).symm

/-- Every claim. -/
theorem claim : Cert.Claim :=
  ⟨Cert.Kernel.Gen.facts, Cert.KernelIdeal.Gen.facts, Cert.ReferenceIdeal.Gen.facts, Cert.On_where_normal.Gen.facts,
    fun m g _ => Cert.Kernel.Gen.frame m g, fun m g _ => Cert.KernelIdeal.Gen.frame m g,
    fun m g _ => Cert.ReferenceIdeal.Gen.frame m g, preserves, algebraic⟩

end Cert.Proof

end
